-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v18_0)) (v1 : (c : Dev Cert.KernelIdeal.nD) → Buf (Elt Ideal) ((c.tc : Thread Cert.KernelIdeal.nD Cert.KernelIdeal.τ).loc Cert.KernelIdeal.main_v18_1)) (v2 : (c : Dev Cert.KernelIdeal.nD) → Buf (Elt Ideal) ((c.tc : Thread Cert.KernelIdeal.nD Cert.KernelIdeal.τ).loc Cert.KernelIdeal.main_v18_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18_0) = v0 c
          ∧ r.2.mem ((c.tc : Thread Cert.KernelIdeal.nD Cert.KernelIdeal.τ).loc Cert.KernelIdeal.main_v18_1) = v1 c
          ∧ r.2.mem ((c.tc : Thread Cert.KernelIdeal.nD Cert.KernelIdeal.τ).loc Cert.KernelIdeal.main_v18_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12_0) = v0 c
          ∧ r.2.mem ((c.tc : Thread Cert.ReferenceIdeal.nD Cert.ReferenceIdeal.τ).loc Cert.ReferenceIdeal.main_v12_1) = v1 c
          ∧ r.2.mem ((c.tc : Thread Cert.ReferenceIdeal.nD Cert.ReferenceIdeal.τ).loc Cert.ReferenceIdeal.main_v12_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S8x2048x8192 : Shape := ⟨3, ![8, 2048, 8192]⟩
abbrev S8192x14848 : Shape := ⟨2, ![8192, 14848]⟩
abbrev S14848 : Shape := ⟨1, ![14848]⟩
abbrev S_ : Shape := ⟨0, ![]⟩

class Facts : Prop where
  bcast_S_S8x2048x8192 : S_.BroadcastsInDim S8x2048x8192 (![] : Fin 0 → Fin S8x2048x8192.rank)

variable [Facts]

def fn {F : FTy → Type} [FloatOps F] (main_arg0 : FVec F S8x2048x8192 .bf16) (main_arg1 : FVec F S8192x14848 .fp8e4m3) (main_arg2 : FVec F S14848 .f32) : IVec S8x2048x8192 1 :=
  let main_v0 : FVec F S8x2048x8192 .bf16 := Host.absf main_arg0
  let main_cst : FVec F S_ .bf16 := constant S_ .bf16 0x7F7F#16
  let main_v1 : FVec F S8x2048x8192 .bf16 := broadcastInDim S8x2048x8192 ![] bcast_S_S8x2048x8192 main_cst
  let main_v2 : IVec S8x2048x8192 1 := cmpf .ole main_v0 main_v1
  main_v2
-- ==== Kernel.lean ====
abbrev S8x2048x8192 : Shape := ⟨3, ![8, 2048, 8192]⟩
abbrev S8192x14848 : Shape := ⟨2, ![8192, 14848]⟩
abbrev S14848 : Shape := ⟨1, ![14848]⟩
abbrev S2x2 : Shape := ⟨2, ![2, 2]⟩
abbrev S_ : Shape := ⟨0, ![]⟩
abbrev S1x1 : Shape := ⟨2, ![1, 1]⟩
abbrev S1x1x1x1 : Shape := ⟨4, ![1, 1, 1, 1]⟩
abbrev S1x2x1x2 : Shape := ⟨4, ![1, 2, 1, 2]⟩
abbrev S2x1x2x1 : Shape := ⟨4, ![2, 1, 2, 1]⟩
abbrev S2x2x2x2 : Shape := ⟨4, ![2, 2, 2, 2]⟩
abbrev S4x4 : Shape := ⟨2, ![4, 4]⟩
abbrev S4x1x4x1 : Shape := ⟨4, ![4, 1, 4, 1]⟩
abbrev S4x2x4x2 : Shape := ⟨4, ![4, 2, 4, 2]⟩
abbrev S8x8 : Shape := ⟨2, ![8, 8]⟩
abbrev S8x1x8x1 : Shape := ⟨4, ![8, 1, 8, 1]⟩
abbrev S8x2x8x2 : Shape := ⟨4, ![8, 2, 8, 2]⟩
abbrev S16x16 : Shape := ⟨2, ![16, 16]⟩
abbrev S16x1x16x1 : Shape := ⟨4, ![16, 1, 16, 1]⟩
abbrev S16x2x16x2 : Shape := ⟨4, ![16, 2, 16, 2]⟩
abbrev S32x32 : Shape := ⟨2, ![32, 32]⟩
abbrev S32x1x32x1 : Shape := ⟨4, ![32, 1, 32, 1]⟩
abbrev S32x2x32x2 : Shape := ⟨4, ![32, 2, 32, 2]⟩
abbrev S64x64 : Shape := ⟨2, ![64, 64]⟩
abbrev S64x1x64x1 : Shape := ⟨4, ![64, 1, 64, 1]⟩
abbrev S64x2x64x2 : Shape := ⟨4, ![64, 2, 64, 2]⟩
abbrev S128x128 : Shape := ⟨2, ![128, 128]⟩
abbrev S1x128x1x128 : Shape := ⟨4, ![1, 128, 1, 128]⟩
abbrev S2x128x2x128 : Shape := ⟨4, ![2, 128, 2, 128]⟩
abbrev S256x256 : Shape := ⟨2, ![256, 256]⟩
abbrev S16384x8192 : Shape := ⟨2, ![16384, 8192]⟩
abbrev S1x14848 : Shape := ⟨2, ![1, 14848]⟩
abbrev S16384x14848 : Shape := ⟨2, ![16384, 14848]⟩
abbrev S16384x64 : Shape := ⟨2, ![16384, 64]⟩
abbrev S1024x512 : Shape := ⟨2, ![1024, 512]⟩
abbrev S8192x512 : Shape := ⟨2, ![8192, 512]⟩
abbrev S1x512 : Shape := ⟨2, ![1, 512]⟩
abbrev S1024x64 : Shape := ⟨2, ![1024, 64]⟩
abbrev S2x16x1024x512 : Shape := ⟨4, ![2, 16, 1024, 512]⟩
abbrev S1024x256 : Shape := ⟨2, ![1024, 256]⟩
abbrev S1024x128 : Shape := ⟨2, ![1024, 128]⟩
abbrev S1024 : Shape := ⟨1, ![1024]⟩
abbrev S1024x1 : Shape := ⟨2, ![1024, 1]⟩
abbrev S1x1x1024x512 : Shape := ⟨4, ![1, 1, 1024, 512]⟩
abbrev S1x1x1024x128 : Shape := ⟨4, ![1, 1, 1024, 128]⟩
abbrev S512x512 : Shape := ⟨2, ![512, 512]⟩

abbrev nBuf : Space → Nat
  | .hbm => 66
  | .vmem => 14
  | .smem => 0
  | _ => 0

abbrev bufTy : (tb : Table) → Fin (tcTables nBuf tb) → BufTy
  | .hbm, ⟨0, _⟩ => ⟨S8x2048x8192, .bf16⟩
  | .hbm, ⟨1, _⟩ => ⟨S8192x14848, .fp8e4m3⟩
  | .hbm, ⟨2, _⟩ => ⟨S14848, .f32⟩
  | .hbm, ⟨3, _⟩ => ⟨S2x2, .f32⟩
  | .hbm, ⟨4, _⟩ => ⟨S_, .f32⟩
  | .hbm, ⟨5, _⟩ => ⟨S1x1, .f32⟩
  | .hbm, ⟨6, _⟩ => ⟨S1x1x1x1, .f32⟩
  | .hbm, ⟨7, _⟩ => ⟨S1x2x1x2, .f32⟩
  | .hbm, ⟨8, _⟩ => ⟨S1x2x1x2, .f32⟩
  | .hbm, ⟨9, _⟩ => ⟨S1x2x1x2, .f32⟩
  | .hbm, ⟨10, _⟩ => ⟨S2x2, .f32⟩
  | .hbm, ⟨11, _⟩ => ⟨S2x1x2x1, .f32⟩
  | .hbm, ⟨12, _⟩ => ⟨S1x2x1x2, .f32⟩
  | .hbm, ⟨13, _⟩ => ⟨S2x2x2x2, .f32⟩
  | .hbm, ⟨14, _⟩ => ⟨S2x2x2x2, .f32⟩
  | .hbm, ⟨15, _⟩ => ⟨S2x2x2x2, .f32⟩
  | .hbm, ⟨16, _⟩ => ⟨S4x4, .f32⟩
  | .hbm, ⟨17, _⟩ => ⟨S4x1x4x1, .f32⟩
  | .hbm, ⟨18, _⟩ => ⟨S1x2x1x2, .f32⟩
  | .hbm, ⟨19, _⟩ => ⟨S4x2x4x2, .f32⟩
  | .hbm, ⟨20, _⟩ => ⟨S4x2x4x2, .f32⟩
  | .hbm, ⟨21, _⟩ => ⟨S4x2x4x2, .f32⟩
  | .hbm, ⟨22, _⟩ => ⟨S8x8, .f32⟩
  | .hbm, ⟨23, _⟩ => ⟨S8x1x8x1, .f32⟩
  | .hbm, ⟨24, _⟩ => ⟨S1x2x1x2, .f32⟩
  | .hbm, ⟨25, _⟩ => ⟨S8x2x8x2, .f32⟩
  | .hbm, ⟨26, _⟩ => ⟨S8x2x8x2, .f32⟩
  | .hbm, ⟨27, _⟩ => ⟨S8x2x8x2, .f32⟩
  | .hbm, ⟨28, _⟩ => ⟨S16x16, .f32⟩
  | .hbm, ⟨29, _⟩ => ⟨S16x1x16x1, .f32⟩
  | .hbm, ⟨30, _⟩ => ⟨S1x2x1x2, .f32⟩
  | .hbm, ⟨31, _⟩ => ⟨S16x2x16x2, .f32⟩
  | .hbm, ⟨32, _⟩ => ⟨S16x2x16x2, .f32⟩
  | .hbm, ⟨33, _⟩ => ⟨S16x2x16x2, .f32⟩
  | .hbm, ⟨34, _⟩ => ⟨S32x32, .f32⟩
  | .hbm, ⟨35, _⟩ => ⟨S32x1x32x1, .f32⟩
  | .hbm, ⟨36, _⟩ => ⟨S1x2x1x2, .f32⟩
  | .hbm, ⟨37, _⟩ => ⟨S32x2x32x2, .f32⟩
  | .hbm, ⟨38, _⟩ => ⟨S32x2x32x2, .f32⟩
  | .hbm, ⟨39, _⟩ => ⟨S32x2x32x2, .f32⟩
  | .hbm, ⟨40, _⟩ => ⟨S64x64, .f32⟩
  | .hbm, ⟨41, _⟩ => ⟨S64x1x64x1, .f32⟩
  | .hbm, ⟨42, _⟩ => ⟨S1x2x1x2, .f32⟩
  | .hbm, ⟨43, _⟩ => ⟨S64x2x64x2, .f32⟩
  | .hbm, ⟨44, _⟩ => ⟨S64x2x64x2, .f32⟩
  | .hbm, ⟨45, _⟩ => ⟨S64x2x64x2, .f32⟩
  | .hbm, ⟨46, _⟩ => ⟨S128x128, .f32⟩
  | .hbm, ⟨47, _⟩ => ⟨S2x2, .i32⟩
  | .hbm, ⟨48, _⟩ => ⟨S2x2, .i32⟩
  | .hbm, ⟨49, _⟩ => ⟨S_, .i32⟩
  | .hbm, ⟨50, _⟩ => ⟨S2x2, .i32⟩
  | .hbm, ⟨51, _⟩ => ⟨S2x2, .i32⟩
  | .hbm, ⟨52, _⟩ => ⟨S2x2, .i1⟩
  | .hbm, ⟨53, _⟩ => ⟨S2x2, .f32⟩
  | .hbm, ⟨54, _⟩ => ⟨S2x1x2x1, .f32⟩
  | .hbm, ⟨55, _⟩ => ⟨S1x128x1x128, .f32⟩
  | .hbm, ⟨56, _⟩ => ⟨S2x128x2x128, .f32⟩
  | .hbm, ⟨57, _⟩ => ⟨S2x128x2x128, .f32⟩
  | .hbm, ⟨58, _⟩ => ⟨S2x128x2x128, .f32⟩
  | .hbm, ⟨59, _⟩ => ⟨S256x256, .f32⟩
  | .hbm, ⟨60, _⟩ => ⟨S256x256, .bf16⟩
  | .hbm, ⟨61, _⟩ => ⟨S16384x8192, .bf16⟩
  | .hbm, ⟨62, _⟩ => ⟨S1x14848, .f32⟩
  | .hbm, ⟨63, _⟩ => ⟨S16384x14848, .bf16⟩
  | .hbm, ⟨64, _⟩ => ⟨S16384x8192, .fp8e4m3⟩
  | .hbm, ⟨65, _⟩ => ⟨S16384x64, .f32⟩
  | .local _ .vmem, ⟨0, _⟩ => ⟨S1024x512, .bf16⟩
  | .local _ .vmem, ⟨1, _⟩ => ⟨S1024x512, .bf16⟩
  | .local _ .vmem, ⟨2, _⟩ => ⟨S256x256, .bf16⟩
  | .local _ .vmem, ⟨3, _⟩ => ⟨S8192x512, .fp8e4m3⟩
  | .local _ .vmem, ⟨4, _⟩ => ⟨S8192x512, .fp8e4m3⟩
  | .local _ .vmem, ⟨5, _⟩ => ⟨S1x512, .f32⟩
  | .local _ .vmem, ⟨6, _⟩ => ⟨S1x512, .f32⟩
  | .local _ .vmem, ⟨7, _⟩ => ⟨S1024x512, .bf16⟩
  | .local _ .vmem, ⟨8, _⟩ => ⟨S1024x512, .bf16⟩
  | .local _ .vmem, ⟨9, _⟩ => ⟨S1024x512, .fp8e4m3⟩
  | .local _ .vmem, ⟨10, _⟩ => ⟨S1024x512, .fp8e4m3⟩
  | .local _ .vmem, ⟨11, _⟩ => ⟨S1024x64, .f32⟩
  | .local _ .vmem, ⟨12, _⟩ => ⟨S1024x64, .f32⟩
  | .local _ .vmem, ⟨13, _⟩ => ⟨S2x16x1024x512, .bf16⟩
  | _, _ => ⟨S8x2048x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_v0 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_v1 : Ref sig .tc := ⟨.hbm, 10, rfl⟩
abbrev main_call1_v0 : Ref sig .tc := ⟨.hbm, 11, rfl⟩
abbrev main_call1_v1 : Ref sig .tc := ⟨.hbm, 12, rfl⟩
abbrev main_call1_v2 : Ref sig .tc := ⟨.hbm, 13, rfl⟩
abbrev main_call1_v3 : Ref sig .tc := ⟨.hbm, 14, rfl⟩
abbrev main_call1_v4 : Ref sig .tc := ⟨.hbm, 15, rfl⟩
abbrev main_v2 : Ref sig .tc := ⟨.hbm, 16, rfl⟩
abbrev main_call2_v0 : Ref sig .tc := ⟨.hbm, 17, rfl⟩
abbrev main_call2_v1 : Ref sig .tc := ⟨.hbm, 18, rfl⟩
abbrev main_call2_v2 : Ref sig .tc := ⟨.hbm, 19, rfl⟩
abbrev main_call2_v3 : Ref sig .tc := ⟨.hbm, 20, rfl⟩
abbrev main_call2_v4 : Ref sig .tc := ⟨.hbm, 21, rfl⟩
abbrev main_v3 : Ref sig .tc := ⟨.hbm, 22, rfl⟩
abbrev main_call3_v0 : Ref sig .tc := ⟨.hbm, 23, rfl⟩
abbrev main_call3_v1 : Ref sig .tc := ⟨.hbm, 24, rfl⟩
abbrev main_call3_v2 : Ref sig .tc := ⟨.hbm, 25, rfl⟩
abbrev main_call3_v3 : Ref sig .tc := ⟨.hbm, 26, rfl⟩
abbrev main_call3_v4 : Ref sig .tc := ⟨.hbm, 27, rfl⟩
abbrev main_v4 : Ref sig .tc := ⟨.hbm, 28, rfl⟩
abbrev main_call4_v0 : Ref sig .tc := ⟨.hbm, 29, rfl⟩
abbrev main_call4_v1 : Ref sig .tc := ⟨.hbm, 30, rfl⟩
abbrev main_call4_v2 : Ref sig .tc := ⟨.hbm, 31, rfl⟩
abbrev main_call4_v3 : Ref sig .tc := ⟨.hbm, 32, rfl⟩
abbrev main_call4_v4 : Ref sig .tc := ⟨.hbm, 33, rfl⟩
abbrev main_v5 : Ref sig .tc := ⟨.hbm, 34, rfl⟩
abbrev main_call5_v0 : Ref sig .tc := ⟨.hbm, 35, rfl⟩
abbrev main_call5_v1 : Ref sig .tc := ⟨.hbm, 36, rfl⟩
abbrev main_call5_v2 : Ref sig .tc := ⟨.hbm, 37, rfl⟩
abbrev main_call5_v3 : Ref sig .tc := ⟨.hbm, 38, rfl⟩
abbrev main_call5_v4 : Ref sig .tc := ⟨.hbm, 39, rfl⟩
abbrev main_v6 : Ref sig .tc := ⟨.hbm, 40, rfl⟩
abbrev main_call6_v0 : Ref sig .tc := ⟨.hbm, 41, rfl⟩
abbrev main_call6_v1 : Ref sig .tc := ⟨.hbm, 42, rfl⟩
abbrev main_call6_v2 : Ref sig .tc := ⟨.hbm, 43, rfl⟩
abbrev main_call6_v3 : Ref sig .tc := ⟨.hbm, 44, rfl⟩
abbrev main_call6_v4 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_c : Ref sig .tc := ⟨.hbm, 49, rfl⟩
abbrev main_v10 : Ref sig .tc := ⟨.hbm, 50, rfl⟩
abbrev main_v11 : Ref sig .tc := ⟨.hbm, 51, rfl⟩
abbrev main_v12 : Ref sig .tc := ⟨.hbm, 52, rfl⟩
abbrev main_v13 : Ref sig .tc := ⟨.hbm, 53, rfl⟩
abbrev main_call7_v0 : Ref sig .tc := ⟨.hbm, 54, rfl⟩
abbrev main_call7_v1 : Ref sig .tc := ⟨.hbm, 55, rfl⟩
abbrev main_call7_v2 : Ref sig .tc := ⟨.hbm, 56, rfl⟩
abbrev main_call7_v3 : Ref sig .tc := ⟨.hbm, 57, rfl⟩
abbrev main_call7_v4 : Ref sig .tc := ⟨.hbm, 58, rfl⟩
abbrev main_v14 : Ref sig .tc := ⟨.hbm, 59, rfl⟩
abbrev main_v15 : Ref sig .tc := ⟨.hbm, 60, rfl⟩
abbrev main_v16 : Ref sig .tc := ⟨.hbm, 61, rfl⟩
abbrev main_v17 : Ref sig .tc := ⟨.hbm, 62, rfl⟩
abbrev main_v18_0 : Ref sig .tc := ⟨.hbm, 63, rfl⟩
abbrev main_v18_1 : Ref sig .tc := ⟨.hbm, 64, rfl⟩
abbrev main_v18_2 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![17, 29], ![false, false]⟩

def k0_cond1 (i : grid0.Coords) : BitVec 1 :=
  let arg0 : BitVec 32 := BitVec.ofNat 32 (i 0).val
  let c16_i32 : BitVec 32 := 16#32
  let v0 : BitVec 1 := Scalar.cmpi .slt arg0 c16_i32
  let arg1 : BitVec 32 := BitVec.ofNat 32 (i 1).val
  let c16_i32_0 : BitVec 32 := 16#32
  let v1 : BitVec 1 := Scalar.cmpi .slt arg1 c16_i32_0
  let v2 : BitVec 1 := Scalar.andi v0 v1
  let v3 : BitVec 32 := Scalar.extui v2
  let c0_i32 : BitVec 32 := 0#32
  let v4 : BitVec 1 := Scalar.cmpi .ne v3 c0_i32
  v4

def k0_off1 (i : grid0.Coords) : Fin 4 → Nat :=
  let arg0 : BitVec 32 := BitVec.ofNat 32 (i 0).val
  let c2_i32 : BitVec 32 := 2#32
  let c0_i32_3 : BitVec 32 := 0#32
  let v8 : BitVec 1 := Scalar.cmpi .eq c2_i32 c0_i32_3
  let c1_i32 : BitVec 32 := 1#32
  let v9 : BitVec 32 := Scalar.select v8 c1_i32 c2_i32
  let v10 : BitVec 32 := Scalar.remsi arg0 v9
  let c0_i32_5 : BitVec 32 := 0#32
  let v12 : BitVec 1 := Scalar.cmpi .slt v10 c0_i32_5
  let c0_i32_6 : BitVec 32 := 0#32
  let v13 : BitVec 1 := Scalar.cmpi .slt v9 c0_i32_6
  let v14 : BitVec 1 := Scalar.xori v12 v13
  let c0_i32_4 : BitVec 32 := 0#32
  let v11 : BitVec 1 := Scalar.cmpi .ne v10 c0_i32_4
  let v15 : BitVec 1 := Scalar.andi v14 v11
  let v16 : BitVec 32 := Scalar.addi v10 v9
  let v17 : BitVec 32 := Scalar.select v15 v16 v10
  let arg1 : BitVec 32 := BitVec.ofNat 32 (i 1).val
  let c0_i32_38 : BitVec 32 := 0#32
  let c0_i32_39 : BitVec 32 := 0#32
  ![v17.toNat, arg1.toNat, 0, 0]
def k0_off2 (i : grid0.Coords) : Fin 4 → Nat :=
  let arg0 : BitVec 32 := BitVec.ofNat 32 (i 0).val
  let c2_i32 : BitVec 32 := 2#32
  let c0_i32_3 : BitVec 32 := 0#32
  let v8 : BitVec 1 := Scalar.cmpi .eq c2_i32 c0_i32_3
  let c1_i32 : BitVec 32 := 1#32
  let v9 : BitVec 32 := Scalar.select v8 c1_i32 c2_i32
  let v10 : BitVec 32 := Scalar.remsi arg0 v9
  let c0_i32_5 : BitVec 32 := 0#32
  let v12 : BitVec 1 := Scalar.cmpi .slt v10 c0_i32_5
  let c0_i32_6 : BitVec 32 := 0#32
  let v13 : BitVec 1 := Scalar.cmpi .slt v9 c0_i32_6
  let v14 : BitVec 1 := Scalar.xori v12 v13
  let c0_i32_4 : BitVec 32 := 0#32
  let v11 : BitVec 1 := Scalar.cmpi .ne v10 c0_i32_4
  let v15 : BitVec 1 := Scalar.andi v14 v11
  let v16 : BitVec 32 := Scalar.addi v10 v9
  let v17 : BitVec 32 := Scalar.select v15 v16 v10
  let arg1 : BitVec 32 := BitVec.ofNat 32 (i 1).val
  let c0_i32_38 : BitVec 32 := 0#32
  let c0_i32_39 : BitVec 32 := 0#32
  ![v17.toNat, arg1.toNat, 0, 0]
def k0_off3 (i : grid0.Coords) : Fin 4 → Nat :=
  let arg0 : BitVec 32 := BitVec.ofNat 32 (i 0).val
  let c2_i32 : BitVec 32 := 2#32
  let c0_i32_3 : BitVec 32 := 0#32
  let v8 : BitVec 1 := Scalar.cmpi .eq c2_i32 c0_i32_3
  let c1_i32 : BitVec 32 := 1#32
  let v9 : BitVec 32 := Scalar.select v8 c1_i32 c2_i32
  let v10 : BitVec 32 := Scalar.remsi arg0 v9
  let c0_i32_5 : BitVec 32 := 0#32
  let v12 : BitVec 1 := Scalar.cmpi .slt v10 c0_i32_5
  let c0_i32_6 : BitVec 32 := 0#32
  let v13 : BitVec 1 := Scalar.cmpi .slt v9 c0_i32_6
  let v14 : BitVec 1 := Scalar.xori v12 v13
  let c0_i32_4 : BitVec 32 := 0#32
  let v11 : BitVec 1 := Scalar.cmpi .ne v10 c0_i32_4
  let v15 : BitVec 1 := Scalar.andi v14 v11
  let v16 : BitVec 32 := Scalar.addi v10 v9
  let v17 : BitVec 32 := Scalar.select v15 v16 v10
  let arg1 : BitVec 32 := BitVec.ofNat 32 (i 1).val
  let c0_i32_76 : BitVec 32 := 0#32
  ![v17.toNat, arg1.toNat, 0, 128]
def k0_off4 (i : grid0.Coords) : Fin 4 → Nat :=
  let arg0 : BitVec 32 := BitVec.ofNat 32 (i 0).val
  let c2_i32 : BitVec 32 := 2#32
  let c0_i32_3 : BitVec 32 := 0#32
  let v8 : BitVec 1 := Scalar.cmpi .eq c2_i32 c0_i32_3
  let c1_i32 : BitVec 32 := 1#32
  let v9 : BitVec 32 := Scalar.select v8 c1_i32 c2_i32
  let v10 : BitVec 32 := Scalar.remsi arg0 v9
  let c0_i32_5 : BitVec 32 := 0#32
  let v12 : BitVec 1 := Scalar.cmpi .slt v10 c0_i32_5
  let c0_i32_6 : BitVec 32 := 0#32
  let v13 : BitVec 1 := Scalar.cmpi .slt v9 c0_i32_6
  let v14 : BitVec 1 := Scalar.xori v12 v13
  let c0_i32_4 : BitVec 32 := 0#32
  let v11 : BitVec 1 := Scalar.cmpi .ne v10 c0_i32_4
  let v15 : BitVec 1 := Scalar.andi v14 v11
  let v16 : BitVec 32 := Scalar.addi v10 v9
  let v17 : BitVec 32 := Scalar.select v15 v16 v10
  let arg1 : BitVec 32 := BitVec.ofNat 32 (i 1).val
  let c0_i32_120 : BitVec 32 := 0#32
  ![v17.toNat, arg1.toNat, 0, 256]
def k0_off5 (i : grid0.Coords) : Fin 4 → Nat :=
  let arg0 : BitVec 32 := BitVec.ofNat 32 (i 0).val
  let c2_i32 : BitVec 32 := 2#32
  let c0_i32_3 : BitVec 32 := 0#32
  let v8 : BitVec 1 := Scalar.cmpi .eq c2_i32 c0_i32_3
  let c1_i32 : BitVec 32 := 1#32
  let v9 : BitVec 32 := Scalar.select v8 c1_i32 c2_i32
  let v10 : BitVec 32 := Scalar.remsi arg0 v9
  let c0_i32_5 : BitVec 32 := 0#32
  let v12 : BitVec 1 := Scalar.cmpi .slt v10 c0_i32_5
  let c0_i32_6 : BitVec 32 := 0#32
  let v13 : BitVec 1 := Scalar.cmpi .slt v9 c0_i32_6
  let v14 : BitVec 1 := Scalar.xori v12 v13
  let c0_i32_4 : BitVec 32 := 0#32
  let v11 : BitVec 1 := Scalar.cmpi .ne v10 c0_i32_4
  let v15 : BitVec 1 := Scalar.andi v14 v11
  let v16 : BitVec 32 := Scalar.addi v10 v9
  let v17 : BitVec 32 := Scalar.select v15 v16 v10
  let arg1 : BitVec 32 := BitVec.ofNat 32 (i 1).val
  let c0_i32_158 : BitVec 32 := 0#32
  ![v17.toNat, arg1.toNat, 0, 384]
def k0_cond2 (i : grid0.Coords) : BitVec 1 :=
  let arg0 : BitVec 32 := BitVec.ofNat 32 (i 0).val
  let c0_i32_1 : BitVec 32 := 0#32
  let v5 : BitVec 1 := Scalar.cmpi .sgt arg0 c0_i32_1
  let v6 : BitVec 32 := Scalar.extui v5
  let c0_i32_2 : BitVec 32 := 0#32
  let v7 : BitVec 1 := Scalar.cmpi .ne v6 c0_i32_2
  v7

def k0_off6 (i : grid0.Coords) : Fin 4 → Nat :=
  let arg0 : BitVec 32 := BitVec.ofNat 32 (i 0).val
  let c1_i32 : BitVec 32 := 1#32
  let v8 : BitVec 32 := Scalar.addi arg0 c1_i32
  let c2_i32 : BitVec 32 := 2#32
  let c0_i32_3 : BitVec 32 := 0#32
  let v9 : BitVec 1 := Scalar.cmpi .eq c2_i32 c0_i32_3
  let c1_i32_4 : BitVec 32 := 1#32
  let v10 : BitVec 32 := Scalar.select v9 c1_i32_4 c2_i32
  let v11 : BitVec 32 := Scalar.remsi v8 v10
  let c0_i32_6 : BitVec 32 := 0#32
  let v13 : BitVec 1 := Scalar.cmpi .slt v11 c0_i32_6
  let c0_i32_7 : BitVec 32 := 0#32
  let v14 : BitVec 1 := Scalar.cmpi .slt v10 c0_i32_7
  let v15 : BitVec 1 := Scalar.xori v13 v14
  let c0_i32_5 : BitVec 32 := 0#32
  let v12 : BitVec 1 := Scalar.cmpi .ne v11 c0_i32_5
  let v16 : BitVec 1 := Scalar.andi v15 v12
  let v17 : BitVec 32 := Scalar.addi v11 v10
  let v18 : BitVec 32 := Scalar.select v16 v17 v11
  let v19 : Index := Scalar.indexCast v18
  let c0 : Index := 0#32
  let c0_8 : Index := 0#32
  let c0_9 : Index := 0#32
  ![v19.toNat, 0, 0, 0]
def k0_off7 (i : grid0.Coords) : Fin 4 → Nat :=
  let arg0 : BitVec 32 := BitVec.ofNat 32 (i 0).val
  let c1_i32 : BitVec 32 := 1#32
  let v8 : BitVec 32 := Scalar.addi arg0 c1_i32
  let c2_i32 : BitVec 32 := 2#32
  let c0_i32_3 : BitVec 32 := 0#32
  let v9 : BitVec 1 := Scalar.cmpi .eq c2_i32 c0_i32_3
  let c1_i32_4 : BitVec 32 := 1#32
  let v10 : BitVec 32 := Scalar.select v9 c1_i32_4 c2_i32
  let v11 : BitVec 32 := Scalar.remsi v8 v10
  let c0_i32_6 : BitVec 32 := 0#32
  let v13 : BitVec 1 := Scalar.cmpi .slt v11 c0_i32_6
  let c0_i32_7 : BitVec 32 := 0#32
  let v14 : BitVec 1 := Scalar.cmpi .slt v10 c0_i32_7
  let v15 : BitVec 1 := Scalar.xori v13 v14
  let c0_i32_5 : BitVec 32 := 0#32
  let v12 : BitVec 1 := Scalar.cmpi .ne v11 c0_i32_5
  let v16 : BitVec 1 := Scalar.andi v15 v12
  let v17 : BitVec 32 := Scalar.addi v11 v10
  let v18 : BitVec 32 := Scalar.select v16 v17 v11
  let v24 : Index := Scalar.indexCast v18
  let c1 : Index := 1#32
  let c0_12 : Index := 0#32
  let c0_13 : Index := 0#32
  ![v24.toNat, 1, 0, 0]
def k0_off8 (i : grid0.Coords) : Fin 4 → Nat :=
  let arg0 : BitVec 32 := BitVec.ofNat 32 (i 0).val
  let c1_i32 : BitVec 32 := 1#32
  let v8 : BitVec 32 := Scalar.addi arg0 c1_i32
  let c2_i32 : BitVec 32 := 2#32
  let c0_i32_3 : BitVec 32 := 0#32
  let v9 : BitVec 1 := Scalar.cmpi .eq c2_i32 c0_i32_3
  let c1_i32_4 : BitVec 32 := 1#32
  let v10 : BitVec 32 := Scalar.select v9 c1_i32_4 c2_i32
  let v11 : BitVec 32 := Scalar.remsi v8 v10
  let c0_i32_6 : BitVec 32 := 0#32
  let v13 : BitVec 1 := Scalar.cmpi .slt v11 c0_i32_6
  let c0_i32_7 : BitVec 32 := 0#32
  let v14 : BitVec 1 := Scalar.cmpi .slt v10 c0_i32_7
  let v15 : BitVec 1 := Scalar.xori v13 v14
  let c0_i32_5 : BitVec 32 := 0#32
  let v12 : BitVec 1 := Scalar.cmpi .ne v11 c0_i32_5
  let v16 : BitVec 1 := Scalar.andi v15 v12
  let v17 : BitVec 32 := Scalar.addi v11 v10
  let v18 : BitVec 32 := Scalar.select v16 v17 v11
  let v30 : Index := Scalar.indexCast v18
  let c2 : Index := 2#32
  let c0_16 : Index := 0#32
  let c0_17 : Index := 0#32
  ![v30.toNat, 2, 0, 0]
def k0_off9 (i : grid0.Coords) : Fin 4 → Nat :=
  let arg0 : BitVec 32 := BitVec.ofNat 32 (i 0).val
  let c1_i32 : BitVec 32 := 1#32
  let v8 : BitVec 32 := Scalar.addi arg0 c1_i32
  let c2_i32 : BitVec 32 := 2#32
  let c0_i32_3 : BitVec 32 := 0#32
  let v9 : BitVec 1 := Scalar.cmpi .eq c2_i32 c0_i32_3
  let c1_i32_4 : BitVec 32 := 1#32
  let v10 : BitVec 32 := Scalar.select v9 c1_i32_4 c2_i32
  let v11 : BitVec 32 := Scalar.remsi v8 v10
  let c0_i32_6 : BitVec 32 := 0#32
  let v13 : BitVec 1 := Scalar.cmpi .slt v11 c0_i32_6
  let c0_i32_7 : BitVec 32 := 0#32
  let v14 : BitVec 1 := Scalar.cmpi .slt v10 c0_i32_7
  let v15 : BitVec 1 := Scalar.xori v13 v14
  let c0_i32_5 : BitVec 32 := 0#32
  let v12 : BitVec 1 := Scalar.cmpi .ne v11 c0_i32_5
  let v16 : BitVec 1 := Scalar.andi v15 v12
  let v17 : BitVec 32 := Scalar.addi v11 v10
  let v18 : BitVec 32 := Scalar.select v16 v17 v11
  let v36 : Index := Scalar.indexCast v18
  let c3 : Index := 3#32
  let c0_20 : Index := 0#32
  let c0_21 : Index := 0#32
  ![v36.toNat, 3, 0, 0]
def k0_off10 (i : grid0.Coords) : Fin 4 → Nat :=
  let arg0 : BitVec 32 := BitVec.ofNat 32 (i 0).val
  let c1_i32 : BitVec 32 := 1#32
  let v8 : BitVec 32 := Scalar.addi arg0 c1_i32
  let c2_i32 : BitVec 32 := 2#32
  let c0_i32_3 : BitVec 32 := 0#32
  let v9 : BitVec 1 := Scalar.cmpi .eq c2_i32 c0_i32_3
  let c1_i32_4 : BitVec 32 := 1#32
  let v10 : BitVec 32 := Scalar.select v9 c1_i32_4 c2_i32
  let v11 : BitVec 32 := Scalar.remsi v8 v10
  let c0_i32_6 : BitVec 32 := 0#32
  let v13 : BitVec 1 := Scalar.cmpi .slt v11 c0_i32_6
  let c0_i32_7 : BitVec 32 := 0#32
  let v14 : BitVec 1 := Scalar.cmpi .slt v10 c0_i32_7
  let v15 : BitVec 1 := Scalar.xori v13 v14
  let c0_i32_5 : BitVec 32 := 0#32
  let v12 : BitVec 1 := Scalar.cmpi .ne v11 c0_i32_5
  let v16 : BitVec 1 := Scalar.andi v15 v12
  let v17 : BitVec 32 := Scalar.addi v11 v10
  let v18 : BitVec 32 := Scalar.select v16 v17 v11
  let v42 : Index := Scalar.indexCast v18
  let c4 : Index := 4#32
  let c0_24 : Index := 0#32
  let c0_25 : Index := 0#32
  ![v42.toNat, 4, 0, 0]
def k0_off11 (i : grid0.Coords) : Fin 4 → Nat :=
  let arg0 : BitVec 32 := BitVec.ofNat 32 (i 0).val
  let c1_i32 : BitVec 32 := 1#32
  let v8 : BitVec 32 := Scalar.addi arg0 c1_i32
  let c2_i32 : BitVec 32 := 2#32
  let c0_i32_3 : BitVec 32 := 0#32
  let v9 : BitVec 1 := Scalar.cmpi .eq c2_i32 c0_i32_3
  let c1_i32_4 : BitVec 32 := 1#32
  let v10 : BitVec 32 := Scalar.select v9 c1_i32_4 c2_i32
  let v11 : BitVec 32 := Scalar.remsi v8 v10
  let c0_i32_6 : BitVec 32 := 0#32
  let v13 : BitVec 1 := Scalar.cmpi .slt v11 c0_i32_6
  let c0_i32_7 : BitVec 32 := 0#32
  let v14 : BitVec 1 := Scalar.cmpi .slt v10 c0_i32_7
  let v15 : BitVec 1 := Scalar.xori v13 v14
  let c0_i32_5 : BitVec 32 := 0#32
  let v12 : BitVec 1 := Scalar.cmpi .ne v11 c0_i32_5
  let v16 : BitVec 1 := Scalar.andi v15 v12
  let v17 : BitVec 32 := Scalar.addi v11 v10
  let v18 : BitVec 32 := Scalar.select v16 v17 v11
  let v48 : Index := Scalar.indexCast v18
  let c5 : Index := 5#32
  let c0_28 : Index := 0#32
  let c0_29 : Index := 0#32
  ![v48.toNat, 5, 0, 0]
def k0_off12 (i : grid0.Coords) : Fin 4 → Nat :=
  let arg0 : BitVec 32 := BitVec.ofNat 32 (i 0).val
  let c1_i32 : BitVec 32 := 1#32
  let v8 : BitVec 32 := Scalar.addi arg0 c1_i32
  let c2_i32 : BitVec 32 := 2#32
  let c0_i32_3 : BitVec 32 := 0#32
  let v9 : BitVec 1 := Scalar.cmpi .eq c2_i32 c0_i32_3
  let c1_i32_4 : BitVec 32 := 1#32
  let v10 : BitVec 32 := Scalar.select v9 c1_i32_4 c2_i32
  let v11 : BitVec 32 := Scalar.remsi v8 v10
  let c0_i32_6 : BitVec 32 := 0#32
  let v13 : BitVec 1 := Scalar.cmpi .slt v11 c0_i32_6
  let c0_i32_7 : BitVec 32 := 0#32
  let v14 : BitVec 1 := Scalar.cmpi .slt v10 c0_i32_7
  let v15 : BitVec 1 := Scalar.xori v13 v14
  let c0_i32_5 : BitVec 32 := 0#32
  let v12 : BitVec 1 := Scalar.cmpi .ne v11 c0_i32_5
  let v16 : BitVec 1 := Scalar.andi v15 v12
  let v17 : BitVec 32 := Scalar.addi v11 v10
  let v18 : BitVec 32 := Scalar.select v16 v17 v11
  let v54 : Index := Scalar.indexCast v18
  let c6 : Index := 6#32
  let c0_32 : Index := 0#32
  let c0_33 : Index := 0#32
  ![v54.toNat, 6, 0, 0]
def k0_off13 (i : grid0.Coords) : Fin 4 → Nat :=
  let arg0 : BitVec 32 := BitVec.ofNat 32 (i 0).val
  let c1_i32 : BitVec 32 := 1#32
  let v8 : BitVec 32 := Scalar.addi arg0 c1_i32
  let c2_i32 : BitVec 32 := 2#32
  let c0_i32_3 : BitVec 32 := 0#32
  let v9 : BitVec 1 := Scalar.cmpi .eq c2_i32 c0_i32_3
  let c1_i32_4 : BitVec 32 := 1#32
  let v10 : BitVec 32 := Scalar.select v9 c1_i32_4 c2_i32
  let v11 : BitVec 32 := Scalar.remsi v8 v10
  let c0_i32_6 : BitVec 32 := 0#32
  let v13 : BitVec 1 := Scalar.cmpi .slt v11 c0_i32_6
  let c0_i32_7 : BitVec 32 := 0#32
  let v14 : BitVec 1 := Scalar.cmpi .slt v10 c0_i32_7
  let v15 : BitVec 1 := Scalar.xori v13 v14
  let c0_i32_5 : BitVec 32 := 0#32
  let v12 : BitVec 1 := Scalar.cmpi .ne v11 c0_i32_5
  let v16 : BitVec 1 := Scalar.andi v15 v12
  let v17 : BitVec 32 := Scalar.addi v11 v10
  let v18 : BitVec 32 := Scalar.select v16 v17 v11
  let v60 : Index := Scalar.indexCast v18
  let c7 : Index := 7#32
  let c0_36 : Index := 0#32
  let c0_37 : Index := 0#32
  ![v60.toNat, 7, 0, 0]
def k0_off14 (i : grid0.Coords) : Fin 4 → Nat :=
  let arg0 : BitVec 32 := BitVec.ofNat 32 (i 0).val
  let c1_i32 : BitVec 32 := 1#32
  let v8 : BitVec 32 := Scalar.addi arg0 c1_i32
  let c2_i32 : BitVec 32 := 2#32
  let c0_i32_3 : BitVec 32 := 0#32
  let v9 : BitVec 1 := Scalar.cmpi .eq c2_i32 c0_i32_3
  let c1_i32_4 : BitVec 32 := 1#32
  let v10 : BitVec 32 := Scalar.select v9 c1_i32_4 c2_i32
  let v11 : BitVec 32 := Scalar.remsi v8 v10
  let c0_i32_6 : BitVec 32 := 0#32
  let v13 : BitVec 1 := Scalar.cmpi .slt v11 c0_i32_6
  let c0_i32_7 : BitVec 32 := 0#32
  let v14 : BitVec 1 := Scalar.cmpi .slt v10 c0_i32_7
  let v15 : BitVec 1 := Scalar.xori v13 v14
  let c0_i32_5 : BitVec 32 := 0#32
  let v12 : BitVec 1 := Scalar.cmpi .ne v11 c0_i32_5
  let v16 : BitVec 1 := Scalar.andi v15 v12
  let v17 : BitVec 32 := Scalar.addi v11 v10
  let v18 : BitVec 32 := Scalar.select v16 v17 v11
  let v66 : Index := Scalar.indexCast v18
  let c8 : Index := 8#32
  let c0_40 : Index := 0#32
  let c0_41 : Index := 0#32
  ![v66.toNat, 8, 0, 0]
def k0_off15 (i : grid0.Coords) : Fin 4 → Nat :=
  let arg0 : BitVec 32 := BitVec.ofNat 32 (i 0).val
  let c1_i32 : BitVec 32 := 1#32
  let v8 : BitVec 32 := Scalar.addi arg0 c1_i32
  let c2_i32 : BitVec 32 := 2#32
  let c0_i32_3 : BitVec 32 := 0#32
  let v9 : BitVec 1 := Scalar.cmpi .eq c2_i32 c0_i32_3
  let c1_i32_4 : BitVec 32 := 1#32
  let v10 : BitVec 32 := Scalar.select v9 c1_i32_4 c2_i32
  let v11 : BitVec 32 := Scalar.remsi v8 v10
  let c0_i32_6 : BitVec 32 := 0#32
  let v13 : BitVec 1 := Scalar.cmpi .slt v11 c0_i32_6
  let c0_i32_7 : BitVec 32 := 0#32
  let v14 : BitVec 1 := Scalar.cmpi .slt v10 c0_i32_7
  let v15 : BitVec 1 := Scalar.xori v13 v14
  let c0_i32_5 : BitVec 32 := 0#32
  let v12 : BitVec 1 := Scalar.cmpi .ne v11 c0_i32_5
  let v16 : BitVec 1 := Scalar.andi v15 v12
  let v17 : BitVec 32 := Scalar.addi v11 v10
  let v18 : BitVec 32 := Scalar.select v16 v17 v11
  let v72 : Index := Scalar.indexCast v18
  let c9 : Index := 9#32
  let c0_44 : Index := 0#32
  let c0_45 : Index := 0#32
  ![v72.toNat, 9, 0, 0]
def k0_off16 (i : grid0.Coords) : Fin 4 → Nat :=
  let arg0 : BitVec 32 := BitVec.ofNat 32 (i 0).val
  let c1_i32 : BitVec 32 := 1#32
  let v8 : BitVec 32 := Scalar.addi arg0 c1_i32
  let c2_i32 : BitVec 32 := 2#32
  let c0_i32_3 : BitVec 32 := 0#32
  let v9 : BitVec 1 := Scalar.cmpi .eq c2_i32 c0_i32_3
  let c1_i32_4 : BitVec 32 := 1#32
  let v10 : BitVec 32 := Scalar.select v9 c1_i32_4 c2_i32
  let v11 : BitVec 32 := Scalar.remsi v8 v10
  let c0_i32_6 : BitVec 32 := 0#32
  let v13 : BitVec 1 := Scalar.cmpi .slt v11 c0_i32_6
  let c0_i32_7 : BitVec 32 := 0#32
  let v14 : BitVec 1 := Scalar.cmpi .slt v10 c0_i32_7
  let v15 : BitVec 1 := Scalar.xori v13 v14
  let c0_i32_5 : BitVec 32 := 0#32
  let v12 : BitVec 1 := Scalar.cmpi .ne v11 c0_i32_5
  let v16 : BitVec 1 := Scalar.andi v15 v12
  let v17 : BitVec 32 := Scalar.addi v11 v10
  let v18 : BitVec 32 := Scalar.select v16 v17 v11
  let v78 : Index := Scalar.indexCast v18
  let c10 : Index := 10#32
  let c0_48 : Index := 0#32
  let c0_49 : Index := 0#32
  ![v78.toNat, 10, 0, 0]
def k0_off17 (i : grid0.Coords) : Fin 4 → Nat :=
  let arg0 : BitVec 32 := BitVec.ofNat 32 (i 0).val
  let c1_i32 : BitVec 32 := 1#32
  let v8 : BitVec 32 := Scalar.addi arg0 c1_i32
  let c2_i32 : BitVec 32 := 2#32
  let c0_i32_3 : BitVec 32 := 0#32
  let v9 : BitVec 1 := Scalar.cmpi .eq c2_i32 c0_i32_3
  let c1_i32_4 : BitVec 32 := 1#32
  let v10 : BitVec 32 := Scalar.select v9 c1_i32_4 c2_i32
  let v11 : BitVec 32 := Scalar.remsi v8 v10
  let c0_i32_6 : BitVec 32 := 0#32
  let v13 : BitVec 1 := Scalar.cmpi .slt v11 c0_i32_6
  let c0_i32_7 : BitVec 32 := 0#32
  let v14 : BitVec 1 := Scalar.cmpi .slt v10 c0_i32_7
  let v15 : BitVec 1 := Scalar.xori v13 v14
  let c0_i32_5 : BitVec 32 := 0#32
  let v12 : BitVec 1 := Scalar.cmpi .ne v11 c0_i32_5
  let v16 : BitVec 1 := Scalar.andi v15 v12
  let v17 : BitVec 32 := Scalar.addi v11 v10
  let v18 : BitVec 32 := Scalar.select v16 v17 v11
  let v84 : Index := Scalar.indexCast v18
  let c11 : Index := 11#32
  let c0_52 : Index := 0#32
  let c0_53 : Index := 0#32
  ![v84.toNat, 11, 0, 0]
def k0_off18 (i : grid0.Coords) : Fin 4 → Nat :=
  let arg0 : BitVec 32 := BitVec.ofNat 32 (i 0).val
  let c1_i32 : BitVec 32 := 1#32
  let v8 : BitVec 32 := Scalar.addi arg0 c1_i32
  let c2_i32 : BitVec 32 := 2#32
  let c0_i32_3 : BitVec 32 := 0#32
  let v9 : BitVec 1 := Scalar.cmpi .eq c2_i32 c0_i32_3
  let c1_i32_4 : BitVec 32 := 1#32
  let v10 : BitVec 32 := Scalar.select v9 c1_i32_4 c2_i32
  let v11 : BitVec 32 := Scalar.remsi v8 v10
  let c0_i32_6 : BitVec 32 := 0#32
  let v13 : BitVec 1 := Scalar.cmpi .slt v11 c0_i32_6
  let c0_i32_7 : BitVec 32 := 0#32
  let v14 : BitVec 1 := Scalar.cmpi .slt v10 c0_i32_7
  let v15 : BitVec 1 := Scalar.xori v13 v14
  let c0_i32_5 : BitVec 32 := 0#32
  let v12 : BitVec 1 := Scalar.cmpi .ne v11 c0_i32_5
  let v16 : BitVec 1 := Scalar.andi v15 v12
  let v17 : BitVec 32 := Scalar.addi v11 v10
  let v18 : BitVec 32 := Scalar.select v16 v17 v11
  let v90 : Index := Scalar.indexCast v18
  let c12 : Index := 12#32
  let c0_56 : Index := 0#32
  let c0_57 : Index := 0#32
  ![v90.toNat, 12, 0, 0]
def k0_off19 (i : grid0.Coords) : Fin 4 → Nat :=
  let arg0 : BitVec 32 := BitVec.ofNat 32 (i 0).val
  let c1_i32 : BitVec 32 := 1#32
  let v8 : BitVec 32 := Scalar.addi arg0 c1_i32
  let c2_i32 : BitVec 32 := 2#32
  let c0_i32_3 : BitVec 32 := 0#32
  let v9 : BitVec 1 := Scalar.cmpi .eq c2_i32 c0_i32_3
  let c1_i32_4 : BitVec 32 := 1#32
  let v10 : BitVec 32 := Scalar.select v9 c1_i32_4 c2_i32
  let v11 : BitVec 32 := Scalar.remsi v8 v10
  let c0_i32_6 : BitVec 32 := 0#32
  let v13 : BitVec 1 := Scalar.cmpi .slt v11 c0_i32_6
  let c0_i32_7 : BitVec 32 := 0#32
  let v14 : BitVec 1 := Scalar.cmpi .slt v10 c0_i32_7
  let v15 : BitVec 1 := Scalar.xori v13 v14
  let c0_i32_5 : BitVec 32 := 0#32
  let v12 : BitVec 1 := Scalar.cmpi .ne v11 c0_i32_5
  let v16 : BitVec 1 := Scalar.andi v15 v12
  let v17 : BitVec 32 := Scalar.addi v11 v10
  let v18 : BitVec 32 := Scalar.select v16 v17 v11
  let v96 : Index := Scalar.indexCast v18
  let c13 : Index := 13#32
  let c0_60 : Index := 0#32
  let c0_61 : Index := 0#32
  ![v96.toNat, 13, 0, 0]
def k0_off20 (i : grid0.Coords) : Fin 4 → Nat :=
  let arg0 : BitVec 32 := BitVec.ofNat 32 (i 0).val
  let c1_i32 : BitVec 32 := 1#32
  let v8 : BitVec 32 := Scalar.addi arg0 c1_i32
  let c2_i32 : BitVec 32 := 2#32
  let c0_i32_3 : BitVec 32 := 0#32
  let v9 : BitVec 1 := Scalar.cmpi .eq c2_i32 c0_i32_3
  let c1_i32_4 : BitVec 32 := 1#32
  let v10 : BitVec 32 := Scalar.select v9 c1_i32_4 c2_i32
  let v11 : BitVec 32 := Scalar.remsi v8 v10
  let c0_i32_6 : BitVec 32 := 0#32
  let v13 : BitVec 1 := Scalar.cmpi .slt v11 c0_i32_6
  let c0_i32_7 : BitVec 32 := 0#32
  let v14 : BitVec 1 := Scalar.cmpi .slt v10 c0_i32_7
  let v15 : BitVec 1 := Scalar.xori v13 v14
  let c0_i32_5 : BitVec 32 := 0#32
  let v12 : BitVec 1 := Scalar.cmpi .ne v11 c0_i32_5
  let v16 : BitVec 1 := Scalar.andi v15 v12
  let v17 : BitVec 32 := Scalar.addi v11 v10
  let v18 : BitVec 32 := Scalar.select v16 v17 v11
  let v102 : Index := Scalar.indexCast v18
  let c14 : Index := 14#32
  let c0_64 : Index := 0#32
  let c0_65 : Index := 0#32
  ![v102.toNat, 14, 0, 0]
def k0_off21 (i : grid0.Coords) : Fin 4 → Nat :=
  let arg0 : BitVec 32 := BitVec.ofNat 32 (i 0).val
  let c1_i32 : BitVec 32 := 1#32
  let v8 : BitVec 32 := Scalar.addi arg0 c1_i32
  let c2_i32 : BitVec 32 := 2#32
  let c0_i32_3 : BitVec 32 := 0#32
  let v9 : BitVec 1 := Scalar.cmpi .eq c2_i32 c0_i32_3
  let c1_i32_4 : BitVec 32 := 1#32
  let v10 : BitVec 32 := Scalar.select v9 c1_i32_4 c2_i32
  let v11 : BitVec 32 := Scalar.remsi v8 v10
  let c0_i32_6 : BitVec 32 := 0#32
  let v13 : BitVec 1 := Scalar.cmpi .slt v11 c0_i32_6
  let c0_i32_7 : BitVec 32 := 0#32
  let v14 : BitVec 1 := Scalar.cmpi .slt v10 c0_i32_7
  let v15 : BitVec 1 := Scalar.xori v13 v14
  let c0_i32_5 : BitVec 32 := 0#32
  let v12 : BitVec 1 := Scalar.cmpi .ne v11 c0_i32_5
  let v16 : BitVec 1 := Scalar.andi v15 v12
  let v17 : BitVec 32 := Scalar.addi v11 v10
  let v18 : BitVec 32 := Scalar.select v16 v17 v11
  let v108 : Index := Scalar.indexCast v18
  let c15 : Index := 15#32
  let c0_68 : Index := 0#32
  let c0_69 : Index := 0#32
  ![v108.toNat, 15, 0, 0]
def cc0_transform_0 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.minsi arg0 c15_i32
  let c16_i32 : BitVec 32 := 16#32
  let v1 : BitVec 1 := Scalar.cmpi .slt arg0 c16_i32
  let c15_i32_0 : BitVec 32 := 15#32
  let v2 : BitVec 32 := Scalar.minsi arg1 c15_i32_0
  let c15_i32_1 : BitVec 32 := 15#32
  let v3 : BitVec 32 := Scalar.select v1 v2 c15_i32_1
  let c0_i32 : BitVec 32 := 0#32
  ![v0.toNat, v3.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .sgt arg0 c0_i32
  let c0_i32_0 : BitVec 32 := 0#32
  let v1 : BitVec 32 := Scalar.select v0 arg1 c0_i32_0
  let c0_i32_1 : BitVec 32 := 0#32
  let c0_i32_2 : BitVec 32 := 0#32
  ![c0_i32_1.toNat, v1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .sgt arg0 c0_i32
  let c0_i32_0 : BitVec 32 := 0#32
  let v1 : BitVec 32 := Scalar.select v0 arg1 c0_i32_0
  let c0_i32_1 : BitVec 32 := 0#32
  let c0_i32_2 : BitVec 32 := 0#32
  ![c0_i32_1.toNat, v1.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let v2 : BitVec 1 := Scalar.cmpi .sgt arg0 c0_i32_0
  let c0_i32_1 : BitVec 32 := 0#32
  let v3 : BitVec 32 := Scalar.select v2 arg1 c0_i32_1
  let c0_i32_2 : BitVec 32 := 0#32
  ![v1.toNat, v3.toNat]

def cc0_transform_5 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.minsi arg0 c15_i32
  let c16_i32 : BitVec 32 := 16#32
  let v1 : BitVec 1 := Scalar.cmpi .slt arg0 c16_i32
  let c15_i32_0 : BitVec 32 := 15#32
  let v2 : BitVec 32 := Scalar.minsi arg1 c15_i32_0
  let c15_i32_1 : BitVec 32 := 15#32
  let v3 : BitVec 32 := Scalar.select v1 v2 c15_i32_1
  let c0_i32 : BitVec 32 := 0#32
  ![v0.toNat, v3.toNat]

def cc0_transform_6 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.minsi arg0 c15_i32
  let c0_i32 : BitVec 32 := 0#32
  let c0_i32_0 : BitVec 32 := 0#32
  ![v0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S8192x512 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== ReferenceIdeal.lean ====
abbrev S8x2048x8192 : Shape := ⟨3, ![8, 2048, 8192]⟩
abbrev S8192x14848 : Shape := ⟨2, ![8192, 14848]⟩
abbrev S14848 : Shape := ⟨1, ![14848]⟩
abbrev S2x2 : Shape := ⟨2, ![2, 2]⟩
abbrev S1048576x128 : Shape := ⟨2, ![1048576, 128]⟩
abbrev S_ : Shape := ⟨0, ![]⟩
abbrev S1x1 : Shape := ⟨2, ![1, 1]⟩
abbrev S1x1x1x1 : Shape := ⟨4, ![1, 1, 1, 1]⟩
abbrev S1x2x1x2 : Shape := ⟨4, ![1, 2, 1, 2]⟩
abbrev S2x1x2x1 : Shape := ⟨4, ![2, 1, 2, 1]⟩
abbrev S2x2x2x2 : Shape := ⟨4, ![2, 2, 2, 2]⟩
abbrev S4x4 : Shape := ⟨2, ![4, 4]⟩
abbrev S4x1x4x1 : Shape := ⟨4, ![4, 1, 4, 1]⟩
abbrev S4x2x4x2 : Shape := ⟨4, ![4, 2, 4, 2]⟩
abbrev S8x8 : Shape := ⟨2, ![8, 8]⟩
abbrev S8x1x8x1 : Shape := ⟨4, ![8, 1, 8, 1]⟩
abbrev S8x2x8x2 : Shape := ⟨4, ![8, 2, 8, 2]⟩
abbrev S16x16 : Shape := ⟨2, ![16, 16]⟩
abbrev S16x1x16x1 : Shape := ⟨4, ![16, 1, 16, 1]⟩
abbrev S16x2x16x2 : Shape := ⟨4, ![16, 2, 16, 2]⟩
abbrev S32x32 : Shape := ⟨2, ![32, 32]⟩
abbrev S32x1x32x1 : Shape := ⟨4, ![32, 1, 32, 1]⟩
abbrev S32x2x32x2 : Shape := ⟨4, ![32, 2, 32, 2]⟩
abbrev S64x64 : Shape := ⟨2, ![64, 64]⟩
abbrev S64x1x64x1 : Shape := ⟨4, ![64, 1, 64, 1]⟩
abbrev S64x2x64x2 : Shape := ⟨4, ![64, 2, 64, 2]⟩
abbrev S128x128 : Shape := ⟨2, ![128, 128]⟩
abbrev S1x14848 : Shape := ⟨2, ![1, 14848]⟩
abbrev S16384x14848 : Shape := ⟨2, ![16384, 14848]⟩
abbrev S16384x8192 : Shape := ⟨2, ![16384, 8192]⟩
abbrev S16384x64 : Shape := ⟨2, ![16384, 64]⟩
abbrev S1048576 : Shape := ⟨1, ![1048576]⟩
abbrev S1048576x1 : Shape := ⟨2, ![1048576, 1]⟩
abbrev S1x254 : Shape := ⟨2, ![1, 254]⟩
abbrev S1048576x254 : Shape := ⟨2, ![1048576, 254]⟩

abbrev nBuf : Space → Nat
  | .hbm => 55
  | .vmem => 7
  | .smem => 0
  | _ => 0

abbrev bufTy : (tb : Table) → Fin (tcTables nBuf tb) → BufTy
  | .hbm, ⟨0, _⟩ => ⟨S8x2048x8192, .bf16⟩
  | .hbm, ⟨1, _⟩ => ⟨S8192x14848, .fp8e4m3⟩
  | .hbm, ⟨2, _⟩ => ⟨S14848, .f32⟩
  | .hbm, ⟨3, _⟩ => ⟨S2x2, .f32⟩
  | .hbm, ⟨4, _⟩ => ⟨S1048576x128, .bf16⟩
  | .hbm, ⟨5, _⟩ => ⟨S_, .f32⟩
  | .hbm, ⟨6, _⟩ => ⟨S1x1, .f32⟩
  | .hbm, ⟨7, _⟩ => ⟨S1x1x1x1, .f32⟩
  | .hbm, ⟨8, _⟩ => ⟨S1x2x1x2, .f32⟩
  | .hbm, ⟨9, _⟩ => ⟨S1x2x1x2, .f32⟩
  | .hbm, ⟨10, _⟩ => ⟨S1x2x1x2, .f32⟩
  | .hbm, ⟨11, _⟩ => ⟨S2x2, .f32⟩
  | .hbm, ⟨12, _⟩ => ⟨S2x1x2x1, .f32⟩
  | .hbm, ⟨13, _⟩ => ⟨S1x2x1x2, .f32⟩
  | .hbm, ⟨14, _⟩ => ⟨S2x2x2x2, .f32⟩
  | .hbm, ⟨15, _⟩ => ⟨S2x2x2x2, .f32⟩
  | .hbm, ⟨16, _⟩ => ⟨S2x2x2x2, .f32⟩
  | .hbm, ⟨17, _⟩ => ⟨S4x4, .f32⟩
  | .hbm, ⟨18, _⟩ => ⟨S4x1x4x1, .f32⟩
  | .hbm, ⟨19, _⟩ => ⟨S1x2x1x2, .f32⟩
  | .hbm, ⟨20, _⟩ => ⟨S4x2x4x2, .f32⟩
  | .hbm, ⟨21, _⟩ => ⟨S4x2x4x2, .f32⟩
  | .hbm, ⟨22, _⟩ => ⟨S4x2x4x2, .f32⟩
  | .hbm, ⟨23, _⟩ => ⟨S8x8, .f32⟩
  | .hbm, ⟨24, _⟩ => ⟨S8x1x8x1, .f32⟩
  | .hbm, ⟨25, _⟩ => ⟨S1x2x1x2, .f32⟩
  | .hbm, ⟨26, _⟩ => ⟨S8x2x8x2, .f32⟩
  | .hbm, ⟨27, _⟩ => ⟨S8x2x8x2, .f32⟩
  | .hbm, ⟨28, _⟩ => ⟨S8x2x8x2, .f32⟩
  | .hbm, ⟨29, _⟩ => ⟨S16x16, .f32⟩
  | .hbm, ⟨30, _⟩ => ⟨S16x1x16x1, .f32⟩
  | .hbm, ⟨31, _⟩ => ⟨S1x2x1x2, .f32⟩
  | .hbm, ⟨32, _⟩ => ⟨S16x2x16x2, .f32⟩
  | .hbm, ⟨33, _⟩ => ⟨S16x2x16x2, .f32⟩
  | .hbm, ⟨34, _⟩ => ⟨S16x2x16x2, .f32⟩
  | .hbm, ⟨35, _⟩ => ⟨S32x32, .f32⟩
  | .hbm, ⟨36, _⟩ => ⟨S32x1x32x1, .f32⟩
  | .hbm, ⟨37, _⟩ => ⟨S1x2x1x2, .f32⟩
  | .hbm, ⟨38, _⟩ => ⟨S32x2x32x2, .f32⟩
  | .hbm, ⟨39, _⟩ => ⟨S32x2x32x2, .f32⟩
  | .hbm, ⟨40, _⟩ => ⟨S32x2x32x2, .f32⟩
  | .hbm, ⟨41, _⟩ => ⟨S64x64, .f32⟩
  | .hbm, ⟨42, _⟩ => ⟨S64x1x64x1, .f32⟩
  | .hbm, ⟨43, _⟩ => ⟨S1x2x1x2, .f32⟩
  | .hbm, ⟨44, _⟩ => ⟨S64x2x64x2, .f32⟩
  | .hbm, ⟨45, _⟩ => ⟨S64x2x64x2, .f32⟩
  | .hbm, ⟨46, _⟩ => ⟨S64x2x64x2, .f32⟩
  | .hbm, ⟨47, _⟩ => ⟨S128x128, .f32⟩
  | .hbm, ⟨48, _⟩ => ⟨S_, .f32⟩
  | .hbm, ⟨49, _⟩ => ⟨S128x128, .f32⟩
  | .hbm, ⟨50, _⟩ => ⟨S128x128, .f32⟩
  | .hbm, ⟨51, _⟩ => ⟨S1x14848, .f32⟩
  | .hbm, ⟨52, _⟩ => ⟨S16384x14848, .bf16⟩
  | .hbm, ⟨53, _⟩ => ⟨S16384x8192, .fp8e4m3⟩
  | .hbm, ⟨54, _⟩ => ⟨S16384x64, .f32⟩
  | .local _ .vmem, ⟨0, _⟩ => ⟨S1048576x128, .bf16⟩
  | .local _ .vmem, ⟨1, _⟩ => ⟨S128x128, .f32⟩
  | .local _ .vmem, ⟨2, _⟩ => ⟨S8192x14848, .fp8e4m3⟩
  | .local _ .vmem, ⟨3, _⟩ => ⟨S1x14848, .f32⟩
  | .local _ .vmem, ⟨4, _⟩ => ⟨S16384x14848, .bf16⟩
  | .local _ .vmem, ⟨5, _⟩ => ⟨S16384x8192, .fp8e4m3⟩
  | .local _ .vmem, ⟨6, _⟩ => ⟨S16384x64, .f32⟩
  | _, _ => ⟨S8x2048x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_v2 : Ref sig .tc := ⟨.hbm, 11, rfl⟩
abbrev main_call1_v0 : Ref sig .tc := ⟨.hbm, 12, rfl⟩
abbrev main_call1_v1 : Ref sig .tc := ⟨.hbm, 13, rfl⟩
abbrev main_call1_v2 : Ref sig .tc := ⟨.hbm, 14, rfl⟩
abbrev main_call1_v3 : Ref sig .tc := ⟨.hbm, 15, rfl⟩
abbrev main_call1_v4 : Ref sig .tc := ⟨.hbm, 16, rfl⟩
abbrev main_v3 : Ref sig .tc := ⟨.hbm, 17, rfl⟩
abbrev main_call2_v0 : Ref sig .tc := ⟨.hbm, 18, rfl⟩
abbrev main_call2_v1 : Ref sig .tc := ⟨.hbm, 19, rfl⟩
abbrev main_call2_v2 : Ref sig .tc := ⟨.hbm, 20, rfl⟩
abbrev main_call2_v3 : Ref sig .tc := ⟨.hbm, 21, rfl⟩
abbrev main_call2_v4 : Ref sig .tc := ⟨.hbm, 22, rfl⟩
abbrev main_v4 : Ref sig .tc := ⟨.hbm, 23, rfl⟩
abbrev main_call3_v0 : Ref sig .tc := ⟨.hbm, 24, rfl⟩
abbrev main_call3_v1 : Ref sig .tc := ⟨.hbm, 25, rfl⟩
abbrev main_call3_v2 : Ref sig .tc := ⟨.hbm, 26, rfl⟩
abbrev main_call3_v3 : Ref sig .tc := ⟨.hbm, 27, rfl⟩
abbrev main_call3_v4 : Ref sig .tc := ⟨.hbm, 28, rfl⟩
abbrev main_v5 : Ref sig .tc := ⟨.hbm, 29, rfl⟩
abbrev main_call4_v0 : Ref sig .tc := ⟨.hbm, 30, rfl⟩
abbrev main_call4_v1 : Ref sig .tc := ⟨.hbm, 31, rfl⟩
abbrev main_call4_v2 : Ref sig .tc := ⟨.hbm, 32, rfl⟩
abbrev main_call4_v3 : Ref sig .tc := ⟨.hbm, 33, rfl⟩
abbrev main_call4_v4 : Ref sig .tc := ⟨.hbm, 34, rfl⟩
abbrev main_v6 : Ref sig .tc := ⟨.hbm, 35, rfl⟩
abbrev main_call5_v0 : Ref sig .tc := ⟨.hbm, 36, rfl⟩
abbrev main_call5_v1 : Ref sig .tc := ⟨.hbm, 37, rfl⟩
abbrev main_call5_v2 : Ref sig .tc := ⟨.hbm, 38, rfl⟩
abbrev main_call5_v3 : Ref sig .tc := ⟨.hbm, 39, rfl⟩
abbrev main_call5_v4 : Ref sig .tc := ⟨.hbm, 40, rfl⟩
abbrev main_v7 : Ref sig .tc := ⟨.hbm, 41, rfl⟩
abbrev main_call6_v0 : Ref sig .tc := ⟨.hbm, 42, rfl⟩
abbrev main_call6_v1 : Ref sig .tc := ⟨.hbm, 43, rfl⟩
abbrev main_call6_v2 : Ref sig .tc := ⟨.hbm, 44, rfl⟩
abbrev main_call6_v3 : Ref sig .tc := ⟨.hbm, 45, rfl⟩
abbrev main_call6_v4 : Ref sig .tc := ⟨.hbm, 46, rfl⟩
abbrev main_v8 : Ref sig .tc := ⟨.hbm, 47, rfl⟩
abbrev main_cst_1 : Ref sig .tc := ⟨.hbm, 48, rfl⟩
abbrev main_v9 : Ref sig .tc := ⟨.hbm, 49, rfl⟩
abbrev main_v10 : Ref sig .tc := ⟨.hbm, 50, rfl⟩
abbrev main_v11 : Ref sig .tc := ⟨.hbm, 51, rfl⟩
abbrev main_v12_0 : Ref sig .tc := ⟨.hbm, 52, rfl⟩
abbrev main_v12_1 : Ref sig .tc := ⟨.hbm, 53, rfl⟩
abbrev main_v12_2 : Ref sig .tc := ⟨.hbm, 54, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S1048576x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8192x14848 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x14848 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16384x14848 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16384x8192 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S16384x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.KernelRun.lean ====
module

public import proofs.«01_k».proof.Proof.Gen.Kernel.Frame
public import proofs.«01_k».proof.Proof.Gen.Kernel.Skeleton

/-!
  The run of the kernel at any reading of its floats, nothing said of its results: every execution ends, no access is out of
  range, the arguments are left as they were and every semaphore is zero again.

  At a grid point the kernel prepares one column block (first branch), multiplies one row block (second branch), both or
  neither. Each of the four cases is executed once, with arbitrary contents in the output windows and in the scratch.
-/

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The elements a memref names, whole, at contents `f`. -/
abbrev pt {sp : Space} {S : Shape} {e : EltTy} (c : Dev nD) (M : Memref sig .tc sp S e) (f : Buf (Elt F) (M.view.loc (c : Thread nD τ))) : sProp 𝕄 :=
  iprop(M.view.loc (c : Thread nD τ) ↦[M.view.set]{fullShare} f)

variable (c : Dev nD) (i : grid0.Coords)
    (arg2 : Memref sig .tc .vmem S1024x512 .bf16) (harg2 : arg2.IsWhole) (arg3 : Memref sig .tc .vmem S256x256 .bf16) (harg3 : arg3.IsWhole)
    (arg4 : Memref sig .tc .vmem S8192x512 .fp8e4m3) (harg4 : arg4.IsWhole) (arg5 : Memref sig .tc .vmem S1x512 .f32) (harg5 : arg5.IsWhole)
    (arg6 : Memref sig .tc .vmem S1024x512 .bf16) (harg6 : arg6.IsWhole) (arg7 : Memref sig .tc .vmem S1024x512 .fp8e4m3) (harg7 : arg7.IsWhole)
    (arg8 : Memref sig .tc .vmem S1024x64 .f32) (harg8 : arg8.IsWhole) (arg9 : Memref sig .tc .vmem S2x16x1024x512 .bf16) (harg9 : arg9.IsWhole)

/-- The preparation of one column block. -/
def prepProg (h1 : k0_cond1 i = 1#1) : Prog (TpuEff nD τ sig (Elt F) Λ₀ .tc) PUnit := do
  let ⟨v361, v466, v467⟩ : Σ' (v361 : FVec F S1024x64 .f32) (v466 : IVec S1024x64 1), FVec F S1024x1 .f32 ← k0_part11 i arg2 harg2 arg3 harg3 arg4 harg4 arg5 harg5 arg6 harg6 arg7 harg7 arg8 harg8 arg9 harg9 (BitVec.ofNat 32 (i 0).val) (BitVec.ofNat 32 (i 1).val) h1
  let v470 : Vec F S1024x64 .f32 ← Prog.lift (.load arg8 (Rect.unit (s := S1024x64) ![0, 0] S1024x64.size inb_S1024x64_S1024x64_0_0).toLoadRect (View.loadsAt_vmem h_S1024x64))
  Prog.lift (.store arg8 (Rect.unit (s := S1024x64) ![0, 0] S1024x64.size inb_S1024x64_S1024x64_0_0) (k0_pay1 v361 v466 v467) Finset.univ (View.stores_vmem_bits_univ h_S1024x64 rfl) (.inl rfl))
  pure ⟨⟩

/-- The product of one row block with one block of weights. -/
def mainProg (h2 : k0_cond2 i = 1#1) : Prog (TpuEff nD τ sig (Elt F) Λ₀ .tc) PUnit := do
  let ⟨v18, v35, v38⟩ : Σ' (v18 : BitVec 32) (v35 : FVec F S1024x512 .f32), FVec F S1024x512 .bf16 ← k0_part12 i arg2 harg2 arg3 harg3 arg4 harg4 arg5 harg5 arg6 harg6 arg7 harg7 arg8 harg8 arg9 harg9 (BitVec.ofNat 32 (i 0).val) h2
  let ⟨v65, v68⟩ : Σ' (v65 : FVec F S1024x512 .f32), FVec F S1024x512 .bf16 ← k0_part13 i arg2 harg2 arg3 harg3 arg4 harg4 arg5 harg5 arg6 harg6 arg7 harg7 arg8 harg8 arg9 harg9 h2 v18 v35 v38
  let ⟨v95, v98⟩ : Σ' (v95 : FVec F S1024x512 .f32), FVec F S1024x512 .bf16 ← k0_part14 i arg2 harg2 arg3 harg3 arg4 harg4 arg5 harg5 arg6 harg6 arg7 harg7 arg8 harg8 arg9 harg9 h2 v18 v65 v68
  let v99 : Vec F S512x512 .fp8e4m3 ← Prog.lift (.load arg4 (Rect.unit (s := S8192x512) ![6656, 0] S512x512.size inb_S8192x512_S512x512_6656_0).toLoadRect (View.loadsAt_vmem h_S512x512))
  let v103 : Vec F S1x1x1024x512 .bf16 ← Prog.lift (.load arg9 (Rect.unit (s := S2x16x1024x512) (k0_off20 i) S1x1x1024x512.size (k0_off20_inb i h2)).toLoadRect (View.loadsAt_vmem h_S1x1x1024x512))
  let v105 : Vec F S512x512 .fp8e4m3 ← Prog.lift (.load arg4 (Rect.unit (s := S8192x512) ![7168, 0] S512x512.size inb_S8192x512_S512x512_7168_0).toLoadRect (View.loadsAt_vmem h_S512x512))
  let v109 : Vec F S1x1x1024x512 .bf16 ← Prog.lift (.load arg9 (Rect.unit (s := S2x16x1024x512) (k0_off21 i) S1x1x1024x512.size (k0_off21_inb i h2)).toLoadRect (View.loadsAt_vmem h_S1x1x1024x512))
  let v111 : Vec F S512x512 .fp8e4m3 ← Prog.lift (.load arg4 (Rect.unit (s := S8192x512) ![7680, 0] S512x512.size inb_S8192x512_S512x512_7680_0).toLoadRect (View.loadsAt_vmem h_S512x512))
  let v114 : Vec F S1x512 .f32 ← Prog.lift (.load arg5 (Rect.unit (s := S1x512) ![0, 0] S1x512.size inb_S1x512_S1x512_0_0).toLoadRect (View.loadsAt_vmem h_S1x512))
  let v119 : Vec F S1024x512 .bf16 ← Prog.lift (.load arg6 (Rect.unit (s := S1024x512) ![0, 0] S1024x512.size inb_S1024x512_S1024x512_0_0).toLoadRect (View.loadsAt_vmem h_S1024x512))
  Prog.lift (.store arg6 (Rect.unit (s := S1024x512) ![0, 0] S1024x512.size inb_S1024x512_S1024x512_0_0) (k0_pay2 v95 v98 v99 v103 v105 v109 v111 v114) Finset.univ (View.stores_vmem h_S1024x512 (harg6.storeExact_slice rfl _ packedbf16_S1024x512_S1024x512_0_0) (fun _ => rfl)) (.inl rfl))
  pure ⟨⟩

/-- The body is the one then the other, each where its condition holds. -/
theorem body_eq : cc0_quarot_linear (F := F) i arg2 harg2 arg3 harg3 arg4 harg4 arg5 harg5 arg6 harg6 arg7 harg7 arg8 harg8 arg9 harg9
    = (if h1 : k0_cond1 i = 1#1 then prepProg i arg2 harg2 arg3 harg3 arg4 harg4 arg5 harg5 arg6 harg6 arg7 harg7 arg8 harg8 arg9 harg9 h1 else pure ⟨⟩) >>= fun _ =>
        (if h2 : k0_cond2 i = 1#1 then mainProg i arg2 harg2 arg3 harg3 arg4 harg4 arg5 harg5 arg6 harg6 arg7 harg7 arg8 harg8 arg9 harg9 h2 else pure ⟨⟩) >>= fun _ => pure ⟨⟩ :=
by
    rw [cc0_quarot_linear_eq_skeleton]
    unfold cc0_quarot_linear_skel
    by_cases h1 : k0_cond1 i = 1#1 <;> by_cases h2 : k0_cond2 i = 1#1 <;> simp only [h1, h2, dite_true, dite_false] <;> rfl

/-- The preparation, where its condition holds: only what it writes changes. -/
theorem prepRun
    (f2 : Buf (Elt F) (arg2.view.loc (c : Thread nD τ))) (f3 : Buf (Elt F) (arg3.view.loc (c : Thread nD τ)))
    (f7 : Buf (Elt F) (arg7.view.loc (c : Thread nD τ)))
    (f8 : Buf (Elt F) (arg8.view.loc (c : Thread nD τ))) (f9 : Buf (Elt F) (arg9.view.loc (c : Thread nD τ))) (K : PUnit → sProp 𝕄) :
    iprop(pt c arg2 f2 ∗ pt c arg3 f3 ∗ pt c arg7 f7 ∗ pt c arg8 f8 ∗ pt c arg9 f9
        ∗ (iprop(pt c arg2 f2 ∗ pt c arg3 f3 ∗ (∃ f, pt c arg7 f) ∗ (∃ f, pt c arg8 f) ∗ (∃ f, pt c arg9 f)) -∗ K ⟨⟩))
      ⊢ wp frame (wpE (defs₀ (F := F)) Variants.none c none) Set.univ (if h1 : k0_cond1 i = 1#1 then prepProg i arg2 harg2 arg3 harg3 arg4 harg4 arg5 harg5 arg6 harg6 arg7 harg7 arg8 harg8 arg9 harg9 h1 else pure ⟨⟩) K := by
  by_cases h1 : k0_cond1 i = 1#1
  · rw [dif_pos h1]
    unfold prepProg
    iintro ⟨H2, H3, H7, H8, H9, Hk⟩
    sl_exec
    sl_step
    iapply Hk
    isplitl [H2]; · iexact H2
    isplitl [H3]; · iexact H3
    isplitl [H7]; · iexists _; iexact H7
    isplitl [H8]; · iexists _; iexact H8
    iexists _; iexact H9
  · rw [dif_neg h1]
    iintro ⟨H2, H3, H7, H8, H9, Hk⟩
    sl_step
    iapply Hk
    isplitl [H2]; · iexact H2
    isplitl [H3]; · iexact H3
    isplitl [H7]; · iexists _; iexact H7
    isplitl [H8]; · iexists _; iexact H8
    iexists _; iexact H9

/-- The product, where its condition holds: only its window changes. -/
theorem mainRun
    (f4 : Buf (Elt F) (arg4.view.loc (c : Thread nD τ))) (f5 : Buf (Elt F) (arg5.view.loc (c : Thread nD τ)))
    (f6 : Buf (Elt F) (arg6.view.loc (c : Thread nD τ))) (f9 : Buf (Elt F) (arg9.view.loc (c : Thread nD τ))) (K : PUnit → sProp 𝕄) :
    iprop(pt c arg4 f4 ∗ pt c arg5 f5 ∗ pt c arg6 f6 ∗ pt c arg9 f9
        ∗ (iprop(pt c arg4 f4 ∗ pt c arg5 f5 ∗ (∃ f, pt c arg6 f) ∗ pt c arg9 f9) -∗ K ⟨⟩))
      ⊢ wp frame (wpE (defs₀ (F := F)) Variants.none c none) Set.univ
          ((if h2 : k0_cond2 i = 1#1 then mainProg i arg2 harg2 arg3 harg3 arg4 harg4 arg5 harg5 arg6 harg6 arg7 harg7 arg8 harg8 arg9 harg9 h2 else pure ⟨⟩) >>= fun _ => pure ⟨⟩) K := by
  by_cases h2 : k0_cond2 i = 1#1
  · rw [dif_pos h2]
    unfold mainProg
    iintro ⟨H4, H5, H6, H9, Hk⟩
    sl_exec
    sl_step
    iapply Hk
    isplitl [H4]; · iexact H4
    isplitl [H5]; · iexact H5
    isplitl [H6]; · iexists _; iexact H6
    iexact H9
  · rw [dif_neg h2]
    show _ ⊢ wp frame (wpE (defs₀ (F := F)) Variants.none c none) Set.univ (pure ⟨⟩) K
    iintro ⟨H4, H5, H6, H9, Hk⟩
    sl_step
    iapply Hk
    isplitl [H4]; · iexact H4
    isplitl [H5]; · iexact H5
    isplitl [H6]; · iexists _; iexact H6
    iexact H9

/-- One point: from any contents of the windows and of the scratch, to some contents; the inputs as they were. -/
theorem kernelRun
    (f2 : Buf (Elt F) (arg2.view.loc (c : Thread nD τ))) (f3 : Buf (Elt F) (arg3.view.loc (c : Thread nD τ)))
    (f4 : Buf (Elt F) (arg4.view.loc (c : Thread nD τ))) (f5 : Buf (Elt F) (arg5.view.loc (c : Thread nD τ)))
    (f6 : Buf (Elt F) (arg6.view.loc (c : Thread nD τ))) (f7 : Buf (Elt F) (arg7.view.loc (c : Thread nD τ)))
    (f8 : Buf (Elt F) (arg8.view.loc (c : Thread nD τ))) (f9 : Buf (Elt F) (arg9.view.loc (c : Thread nD τ))) (K : PUnit → sProp 𝕄) :
    iprop(pt c arg2 f2 ∗ pt c arg3 f3 ∗ pt c arg4 f4 ∗ pt c arg5 f5 ∗ pt c arg6 f6 ∗ pt c arg7 f7 ∗ pt c arg8 f8 ∗ pt c arg9 f9
        ∗ (iprop(pt c arg2 f2 ∗ pt c arg3 f3 ∗ pt c arg4 f4 ∗ pt c arg5 f5 ∗ (∃ f, pt c arg6 f) ∗ (∃ f, pt c arg7 f) ∗ (∃ f, pt c arg8 f)
            ∗ (∃ f, pt c arg9 f)) -∗ K ⟨⟩))
      ⊢ wp frame (wpE (defs₀ (F := F)) Variants.none c none) Set.univ
          (cc0_quarot_linear i arg2 harg2 arg3 harg3 arg4 harg4 arg5 harg5 arg6 harg6 arg7 harg7 arg8 harg8 arg9 harg9) K := by
  rw [body_eq, wp_bind]
  iintro ⟨H2, H3, H4, H5, H6, H7, H8, H9, Hk⟩
  iapply (prepRun c i arg2 harg2 arg3 harg3 arg4 harg4 arg5 harg5 arg6 harg6 arg7 harg7 arg8 harg8 arg9 harg9 f2 f3 f7 f8 f9 _)
  isplitl [H2]; · iexact H2
  isplitl [H3]; · iexact H3
  isplitl [H7]; · iexact H7
  isplitl [H8]; · iexact H8
  isplitl [H9]; · iexact H9
  iintro ⟨H2, H3, H7, H8, ⟨%g9, H9⟩⟩
  iapply (mainRun c i arg2 harg2 arg3 harg3 arg4 harg4 arg5 harg5 arg6 harg6 arg7 harg7 arg8 harg8 arg9 harg9 f4 f5 f6 g9 _)
  isplitl [H4]; · iexact H4
  isplitl [H5]; · iexact H5
  isplitl [H6]; · iexact H6
  isplitl [H9]; · iexact H9
  iintro ⟨H4, H5, H6, H9⟩
  iapply Hk
  isplitl [H2]; · iexact H2
  isplitl [H3]; · iexact H3
  isplitl [H4]; · iexact H4
  isplitl [H5]; · iexact H5
  isplitl [H6]; · iexact H6
  isplitl [H7]; · iexact H7
  isplitl [H8]; · iexact H8
  iexists _; iexact H9

/-- The scratch as the pipeline keeps it. -/
theorem pt_scratch (c : Dev nD) (f : Buf (Elt F) ((c : Thread nD τ).loc cc0_scratch0)) :
    (pt c (Memref.whole cc0_scratch0) f : sProp 𝕄) = iprop(((c : Thread nD τ).loc cc0_scratch0) ↦{fullShare} f) := by
  unfold pt
  rw [show (Memref.whole cc0_scratch0).view.set = Finset.univ from View.set_whole _]

variable (m : (ℓ : Loc nD τ sig) → Buf (Elt F) ℓ) (ρ : Dev nD → PrngReg)

/-- The output windows, of which nothing is said. -/
def fgt (w : Fin cfg0.W) : Bool := match w with
  | ⟨0, _⟩ => false
  | ⟨1, _⟩ => false
  | ⟨2, _⟩ => false
  | ⟨3, _⟩ => false
  | ⟨4, _⟩ => true
  | ⟨5, _⟩ => true
  | ⟨6, _⟩ => true

/-- The proof data: the inputs' blocks are left in place. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => Classical.choice inferInstance
    | ⟨5, _⟩ => Classical.choice inferInstance
    | ⟨6, _⟩ => Classical.choice inferInstance
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem before_0 (c : Dev nD) (t : Fin cfg0.N) (d) : (dats m 0 c).before 0 t d = iblk m c 0 t :=
  before0_0_of m (dats m 0 c) (A_eq m c 0) (after_0 m c) t d
theorem after_1 (c : Dev nD) (t : Fin cfg0.N) : (dats m 0 c).after 1 t = iblk m c 1 t := by dsimp only [dats]
theorem before_1 (c : Dev nD) (t : Fin cfg0.N) (d) : (dats m 0 c).before 1 t d = iblk m c 1 t :=
  before0_1_of m (dats m 0 c) (A_eq m c 1) (after_1 m c) t d
theorem after_2 (c : Dev nD) (t : Fin cfg0.N) : (dats m 0 c).after 2 t = iblk m c 2 t := by dsimp only [dats]
theorem before_2 (c : Dev nD) (t : Fin cfg0.N) (d) : (dats m 0 c).before 2 t d = iblk m c 2 t :=
  before0_2_of m (dats m 0 c) (A_eq m c 2) (after_2 m c) t d
theorem after_3 (c : Dev nD) (t : Fin cfg0.N) : (dats m 0 c).after 3 t = iblk m c 3 t := by dsimp only [dats]
theorem before_3 (c : Dev nD) (t : Fin cfg0.N) (d) : (dats m 0 c).before 3 t d = iblk m c 3 t :=
  before0_3_of m (dats m 0 c) (A_eq m c 3) (after_3 m c) t d

/-- What a point is handed. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ X, owns (c : Thread nD τ) (st0_4 t) fullShare X)
    ∗ (∃ X, owns (c : Thread nD τ) (st0_5 t) fullShare X)
    ∗ (∃ X, owns (c : Thread nD τ) (st0_6 t) fullShare X))

/-- What a point hands back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ (∃ X, owns (c : Thread nD τ) (st0_4 t) fullShare X)
    ∗ (∃ X, owns (c : Thread nD τ) (st0_5 t) fullShare X)
    ∗ (∃ X, owns (c : Thread nD τ) (st0_6 t) fullShare X))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = Pipeline.ΦA spec0 c from rfl, show (dats m 0 c).Φ t.castSucc = Pipeline.ΦA spec0 c from rfl]
  unfold Dat.owesAt Pipeline.owesWithin Pipeline.ΦA
  rw [show (dats m 0 c).owed t.castSucc = 0 from rfl, show (dats m 0 c).owed t.succ = 0 from rfl, scopedRest0_eq]
  simp only [← pt_scratch]
  simp only [before_0, before_1, before_2, before_3, after_0, after_1, after_2, after_3]
  unfold owns
  iintro ⟨⟨⟨%f9, HS⟩, Hg⟩, ⟨%W, -, HW⟩, ⟨%d0, %f2, %e2, H0⟩, ⟨%d1, %f3, %e3, H1⟩, ⟨%d2, %f4, %e4, H2⟩, ⟨%d3, %f5, %e5, H3⟩,
    ⟨%X4, %f6, -, H4⟩, ⟨%X5, %f7, -, H5⟩, ⟨%X6, %f8, -, H6⟩⟩
  iapply (kernelRun c (cfg0.grid.coords t) (st0_0 t) (hstage0_0 ((cfg0.slots t 0).cast nbuf0_0)) (st0_1 t) (hstage0_1 ((cfg0.slots t 1).cast nbuf0_1))
    (st0_2 t) (hstage0_2 ((cfg0.slots t 2).cast nbuf0_2)) (st0_3 t) (hstage0_3 ((cfg0.slots t 3).cast nbuf0_3))
    (st0_4 t) (hstage0_4 ((cfg0.slots t 4).cast nbuf0_4)) (st0_5 t) (hstage0_5 ((cfg0.slots t 5).cast nbuf0_5))
    (st0_6 t) (hstage0_6 ((cfg0.slots t 6).cast nbuf0_6)) (Memref.whole cc0_scratch0) (Memref.isWhole_whole _) f2 f3 f4 f5 f6 f7 f8 f9 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS]; · iexact HS
  iintro ⟨H0, H1, H2, H3, ⟨%g4, H4⟩, ⟨%g5, H5⟩, ⟨%g6, H6⟩, ⟨%g9, HS⟩⟩
  isplitl [HS Hg]
  · isplitl [HS]; · iexists _; iexact HS
    iexact Hg
  isplitl [HW]
  · iexists W; isplitr; · ipureintro; exact fun _ _ => Or.inl trivial
    iexact HW
  isplitl [H0]
  · iexists f2; isplitr; · ipureintro; exact e2
    iexact H0
  isplitl [H1]
  · iexists f3; isplitr; · ipureintro; exact e3
    iexact H1
  isplitl [H2]
  · iexists f4; isplitr; · ipureintro; exact e4
    iexact H2
  isplitl [H3]
  · iexists f5; isplitr; · ipureintro; exact e5
    iexact H3
  isplitl [H4]
  · iexists _; iexists g4; isplitr; · ipureintro; exact rfl
    iexact H4
  isplitl [H5]
  · iexists _; iexists g5; isplitr; · ipureintro; exact rfl
    iexact H5
  iexists _; iexists g6; isplitr; · ipureintro; exact rfl
  iexact H6

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ fgt := fun t => by
  rw [bigSep_W0, bigSep_W0, defs₀_row]
  exact triple_restated (sound_body m c t) rfl .rfl fun _ => .rfl

set_option backward.isDefEq.respectTransparency.types false in
theorem run_main : θ_run defs (onTc (τ := τ) (main (F := F))) (s₀ m ρ)
    (fun r => Pipeline.RDat.FramePost cfg0 (fun c => (dats m 0 c).toRForget fgt) (V m) r ∧ r.2.sem = fun _ => 0) :=
  Pipeline.θ_run_frame_forget (Q' := _) cfgs (dats m) (0 : Fin 1) launch0 defs₀ Variants.none fgt m ρ main
    (hbody := fun c => (body_obligation m c).loose) (hshare := fun c => (dats m 0 c).share_full fun _ => rfl)
    (howed := fun _ _ => rfl) (V := V m) (hmain := hmain m Variants.none) (hA := A_eq m) (hΦ := fun _ _ => rfl) (hQ' := fun _ h => h)

/-- The run, its arguments unchanged and its semaphores zero again. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c =>
    ⟨((h.1 c).2 main_arg0 (Pipeline.mem_restRefs_of main_arg0 (by decide) (by decide))).trans (V_main_arg0 m c),
      (h.1.arr_in c 2 rfl).trans ((A_eq m c 2).trans (V_main_arg1 m c)),
      ((h.1 c).2 main_arg2 (Pipeline.mem_restRefs_of main_arg2 (by decide) (by decide))).trans (V_main_arg2 m c)⟩, h.2⟩) (run_main m ρ)

end Cert.Kernel.Hand

end
-- ==== Proof.Payload.lean ====
module

public import proofs.«01_k».proof.Proof.Gen.KernelIdeal.Skeleton
public import Idealize.ShloMosaic.Lib.Pipeline.FrameBody

/-!
  What the kernel computes at one grid point, as functions of the blocks it reads.

  A column block of 512 is four groups of 128. The kernel treats the four groups alike, one after the other; here each step
  has one definition, and the theorems at the end say that the body's four copies of it are that definition.
-/

@[expose] public section

set_option maxRecDepth 16384

noncomputable section

namespace Cert.KernelIdeal.Hand

open Cert.KernelIdeal Cert.KernelIdeal.Gen
open Idealize.ShloMosaic

variable {F : FTy → Type} [FloatOps F]

/-! ## The quantiser of one group of 128 columns -/

/-- One step of the search for the exponent field: `b` is added where the float of that field is not above `a`. -/
def fieldStep (b : BitVec 32) (a : FVec F S1024x1 .f32) (f : IVec S1024x1 32) : IVec S1024x1 32 :=
  select (cmpf .olt a (bitcastToFloat .f32 (shli (addi f (broadcast S1024x1 b)) (broadcast S1024x1 23#32)))) f (addi f (broadcast S1024x1 b))

/-- The exponent field of `a`, found bit by bit. -/
def field (a : FVec F S1024x1 .f32) : IVec S1024x1 32 :=
  fieldStep 1#32 a (fieldStep 2#32 a (fieldStep 4#32 a (fieldStep 8#32 a (fieldStep 16#32 a (fieldStep 32#32 a (fieldStep 64#32 a
    (fieldStep 128#32 a (broadcast S1024x1 0#32))))))))

/-- The exponent of the scale. -/
def expOf (a : FVec F S1024x1 .f32) : IVec S1024x1 32 :=
  select (cmpi .slt (shli (field a) (broadcast S1024x1 23#32)) (broadcast S1024x1 8388608#32)) (broadcast S1024x1 0#32)
    (subi (shrsi (shli (field a) (broadcast S1024x1 23#32)) (broadcast S1024x1 23#32)) (broadcast S1024x1 126#32))

/-- The scale of each row. -/
def scaleCol (a : FVec F S1024x1 .f32) : FVec F S1024x1 .f32 :=
  bitcastToFloat .f32 (shli (addi (broadcast S1024x1 127#32) (expOf a)) (broadcast S1024x1 23#32))

/-- The inverse of the scale of each row. -/
def invCol (a : FVec F S1024x1 .f32) : FVec F S1024x1 .f32 :=
  bitcastToFloat .f32 (shli (subi (broadcast S1024x1 127#32) (expOf a)) (broadcast S1024x1 23#32))

/-- The largest absolute value of each row, times 1/448. -/
def amaxCol (v : FVec F S1024x128 .f32) : FVec F S1024x1 .f32 :=
  mulf (shapeCast S1024x1 (multiReduction .maximumf [1] S1024 (absf v) 0xFF800000#32 reduces_S1024x128_S1024 (.inl rfl) rfl) shapeCasts_S1024_S1024x1)
    (broadcast S1024x1 (Scalar.ofBits .f32 0x3B124925#32))

/-- The codes of one group. -/
def codeOf (v : FVec F S1024x128 .f32) : FVec F S1024x128 .fp8e4m3 :=
  truncf .fp8e4m3 (minimumf (broadcast S1024x128 (Scalar.ofBits .f32 0x43E00000#32))
    (maximumf (broadcast S1024x128 (Scalar.ofBits .f32 0xC3E00000#32))
      (mulf v (broadcastTo S1024x128 (invCol (amaxCol v)) broadcasts_S1024x1_S1024x128)))) bitsLt_fp8e4m3_f32

/-- The codes of one group times their scales. -/
def xaOf (v : FVec F S1024x128 .f32) : FVec F S1024x128 .bf16 :=
  mulf (extf .bf16 (codeOf v) bitsLt_fp8e4m3_bf16)
    (broadcastTo S1024x128 (truncf .bf16 (scaleCol (amaxCol v)) bitsLt_bf16_f32) broadcasts_S1024x1_S1024x128)

/-- `xaOf` at the rank of the scratch. -/
def xa4 (v : FVec F S1024x128 .f32) : Vec F S1x1x1024x128 .bf16 :=
  shapeCast S1x1x1024x128 (shapeCast S1024x128 (xaOf v) shapeCasts_S1024x128_S1024x128) shapeCasts_S1024x128_S1x1x1024x128

/-- The block of scales `s` with column `k` replaced by the scales of a group. -/
def scaleStep (k : BitVec 32) (s : FVec F S1024x64 .f32) (v : FVec F S1024x128 .f32) : FVec F S1024x64 .f32 :=
  select (cmpi .eq (iota .tc S1024x64 32 [1] iota_S1024x64_d1_w32) (broadcast S1024x64 k))
    (broadcastTo S1024x64 (shapeCast S1024x1 (scaleCol (amaxCol v)) shapeCasts_S1024x1_S1024x1) broadcasts_S1024x1_S1024x64) s

/-! ## A column block -/

section Block

variable (x : S1024x512.Idx → Elt F .bf16) (h : S256x256.Idx → Elt F .bf16)

/-- The left half of a column block. -/
def colsL : Vec F S1024x256 .bf16 := View.ld x (Rect.unit (s := S1024x512) ![0, 0] S1024x256.size inb_S1024x512_S1024x256_0_0)
/-- The right half of a column block. -/
def colsR : Vec F S1024x256 .bf16 := View.ld x (Rect.unit (s := S1024x512) ![0, 256] S1024x256.size inb_S1024x512_S1024x256_0_256)
/-- The Hadamard matrix as loaded. -/
def hadM : Vec F S256x256 .bf16 := View.ld h (Rect.unit (s := S256x256) ![0, 0] S256x256.size inb_S256x256_S256x256_0_0)

/-- The first rotated group. -/
def grp0 : FVec F S1024x128 .f32 := extractStridedSlice S1024x128 ![0, 0] (k0_pay4 (colsL x) (hadM h)) slices_S1024x256_o0_0_S1024x128
/-- The second rotated group. -/
def grp1 : FVec F S1024x128 .f32 := extractStridedSlice S1024x128 ![0, 128] (k0_pay4 (colsL x) (hadM h)) slices_S1024x256_o0_128_S1024x128
/-- The third rotated group. -/
def grp2 : FVec F S1024x128 .f32 := extractStridedSlice S1024x128 ![0, 0] (k0_pay4 (colsR x) (hadM h)) slices_S1024x256_o0_0_S1024x128
/-- The fourth rotated group. -/
def grp3 : FVec F S1024x128 .f32 := extractStridedSlice S1024x128 ![0, 128] (k0_pay4 (colsR x) (hadM h)) slices_S1024x256_o0_128_S1024x128

/-- The pieces of the block of codes, the newest first. -/
def codesPieces : List (View.Piece (Elt F) S1024x512 .fp8e4m3) :=
  [⟨Rect.unit (s := S1024x512) ![0, 384] S1024x128.size inb_S1024x512_S1024x128_0_384, codeOf (grp3 x h)⟩,
    ⟨Rect.unit (s := S1024x512) ![0, 256] S1024x128.size inb_S1024x512_S1024x128_0_256, codeOf (grp2 x h)⟩,
    ⟨Rect.unit (s := S1024x512) ![0, 128] S1024x128.size inb_S1024x512_S1024x128_0_128, codeOf (grp1 x h)⟩,
    ⟨Rect.unit (s := S1024x512) ![0, 0] S1024x128.size inb_S1024x512_S1024x128_0_0, codeOf (grp0 x h)⟩]

/-- The four rotated groups. -/
def grp : ℕ → FVec F S1024x128 .f32
  | 0 => grp0 x h
  | 1 => grp1 x h
  | 2 => grp2 x h
  | _ => grp3 x h

/-- Row `r`, column `q` of a group, the column counted from any group's first. -/
def gidx (r : Fin 1024) (q : ℕ) : S1024x128.Idx := fun a => match a with
  | ⟨0, _⟩ => r
  | ⟨1, _⟩ => ⟨q % 128, Nat.mod_lt _ (by decide)⟩

/-- The same at the rank of the scratch. -/
def xidx (r : Fin 1024) (q : ℕ) : S1x1x1024x128.Idx := fun a => match a with
  | ⟨0, _⟩ => ⟨0, Nat.one_pos⟩
  | ⟨1, _⟩ => ⟨0, Nat.one_pos⟩
  | ⟨2, _⟩ => r
  | ⟨3, _⟩ => ⟨q % 128, Nat.mod_lt _ (by decide)⟩

/-- The block of codes of a column block. -/
def codesBlk : S1024x512.Idx → Elt F .fp8e4m3 := fun y =>
  codeOf (grp x h ((y 1).val / 128)) (gidx (y 0) (y 1).val)

/-- The codes of a column block times their scales, at the rank of the scratch. -/
def xaBlk : Vec F S1x1x1024x512 .bf16 := fun y =>
  xa4 (grp x h ((y 3).val / 128)) (xidx (y 2) (y 3).val)

/-- The block of scales after a column block, from the block before it. -/
def scaleBlk (n : BitVec 32) (s : S1024x64.Idx → Elt F .f32) : FVec F S1024x64 .f32 :=
  scaleStep (Scalar.addi (Scalar.addi (Scalar.muli n 4#32) 2#32) 1#32)
    (scaleStep (Scalar.addi (Scalar.addi (Scalar.muli n 4#32) 2#32) 0#32)
      (scaleStep (Scalar.addi (Scalar.addi (Scalar.muli n 4#32) 0#32) 1#32)
        (scaleStep (Scalar.addi (Scalar.addi (Scalar.muli n 4#32) 0#32) 0#32)
          (k0_pay3 n (View.ld s (Rect.unit (s := S1024x64) ![0, 0] S1024x64.size inb_S1024x64_S1024x64_0_0)))
          (grp0 x h)) (grp1 x h)) (grp2 x h)) (grp3 x h)

/-- The pieces the point at `i` writes into the scratch, the newest first. -/
def xaPieces (i : grid0.Coords) (h1 : k0_cond1 i = 1#1) : List (View.Piece (Elt F) S2x16x1024x512 .bf16) :=
  [⟨Rect.unit (s := S2x16x1024x512) (k0_off5 i) S1x1x1024x128.size (k0_off5_inb i h1), xa4 (grp3 x h)⟩,
    ⟨Rect.unit (s := S2x16x1024x512) (k0_off4 i) S1x1x1024x128.size (k0_off4_inb i h1), xa4 (grp2 x h)⟩,
    ⟨Rect.unit (s := S2x16x1024x512) (k0_off3 i) S1x1x1024x128.size (k0_off3_inb i h1), xa4 (grp1 x h)⟩,
    ⟨Rect.unit (s := S2x16x1024x512) (k0_off2 i) S1x1x1024x128.size (k0_off2_inb i h1), xa4 (grp0 x h)⟩]

end Block

/-! ## The body's four copies -/

theorem code0_eq (x : Vec F S1024x256 .bf16) (h : Vec F S256x256 .bf16) :
    k0_pay14 (k0_pay5 x h) (k0_pay9 (k0_pay6 x h) (k0_pay7 x h) k0_pay8) (k0_pay10 (k0_pay6 x h) (k0_pay7 x h) k0_pay8)
      (k0_pay11 (k0_pay6 x h) (k0_pay7 x h) k0_pay8)
      = codeOf (extractStridedSlice S1024x128 ![0, 0] (k0_pay4 x h) slices_S1024x256_o0_0_S1024x128) := rfl

theorem xa0_eq (x : Vec F S1024x256 .bf16) (h : Vec F S256x256 .bf16) :
    k0_pay15 (k0_pay5 x h) (k0_pay9 (k0_pay6 x h) (k0_pay7 x h) k0_pay8) (k0_pay10 (k0_pay6 x h) (k0_pay7 x h) k0_pay8)
      (k0_pay11 (k0_pay6 x h) (k0_pay7 x h) k0_pay8)
      = xa4 (extractStridedSlice S1024x128 ![0, 0] (k0_pay4 x h) slices_S1024x256_o0_0_S1024x128) := rfl

theorem scale0_eq (x : Vec F S1024x256 .bf16) (h : Vec F S256x256 .bf16) :
    k0_pay13 (F := F) (k0_pay9 (k0_pay6 x h) (k0_pay7 x h) k0_pay8) (k0_pay10 (k0_pay6 x h) (k0_pay7 x h) k0_pay8)
      (k0_pay11 (k0_pay6 x h) (k0_pay7 x h) k0_pay8)
      = scaleCol (amaxCol (extractStridedSlice S1024x128 ![0, 0] (k0_pay4 x h) slices_S1024x256_o0_0_S1024x128)) := rfl

theorem code1_eq (r : FVec F S1024x256 .f32) :
    k0_pay25 (k0_pay17 r) (k0_pay24 (k0_pay18 r) (k0_pay19 r) (k0_pay20 r) k0_pay21)
      = codeOf (extractStridedSlice S1024x128 ![0, 128] r slices_S1024x256_o0_128_S1024x128) := rfl

theorem xa1_eq (r : FVec F S1024x256 .f32) :
    k0_pay26 (k0_pay17 r) (k0_pay23 (k0_pay18 r) (k0_pay19 r) (k0_pay20 r) k0_pay21) (k0_pay24 (k0_pay18 r) (k0_pay19 r) (k0_pay20 r) k0_pay21)
      = xa4 (extractStridedSlice S1024x128 ![0, 128] r slices_S1024x256_o0_128_S1024x128) := rfl

theorem scale1_eq (r : FVec F S1024x256 .f32) :
    k0_pay23 (k0_pay18 r) (k0_pay19 r) (k0_pay20 r) k0_pay21
      = scaleCol (amaxCol (extractStridedSlice S1024x128 ![0, 128] r slices_S1024x256_o0_128_S1024x128)) := rfl

theorem code2_eq (x : Vec F S1024x256 .bf16) (h : Vec F S256x256 .bf16) :
    k0_pay35 (k0_pay29 x h) (k0_pay30 x h) (k0_pay31 (k0_pay30 x h)) (k0_pay32 (k0_pay30 x h)) 23#32
      = codeOf (extractStridedSlice S1024x128 ![0, 0] (k0_pay4 x h) slices_S1024x256_o0_0_S1024x128) := rfl

theorem xa2_eq (x : Vec F S1024x256 .bf16) (h : Vec F S256x256 .bf16) :
    k0_pay37 (k0_pay36 (k0_pay29 x h) (k0_pay30 x h) (k0_pay31 (k0_pay30 x h)) (k0_pay32 (k0_pay30 x h)) 23#32)
      = xa4 (extractStridedSlice S1024x128 ![0, 0] (k0_pay4 x h) slices_S1024x256_o0_0_S1024x128) := rfl

theorem scale2_eq (x : Vec F S1024x256 .bf16) (h : Vec F S256x256 .bf16) :
    k0_pay34 (k0_pay30 x h) (k0_pay31 (k0_pay30 x h)) (k0_pay32 (k0_pay30 x h)) 23#32
      = scaleCol (amaxCol (extractStridedSlice S1024x128 ![0, 0] (k0_pay4 x h) slices_S1024x256_o0_0_S1024x128)) := rfl

theorem code3_eq (r : FVec F S1024x256 .f32) :
    k0_pay44 (k0_pay39 r) (k0_pay42 (k0_pay40 r) (k0_pay41 r) 16#32)
      = codeOf (extractStridedSlice S1024x128 ![0, 128] r slices_S1024x256_o0_128_S1024x128) := rfl

theorem xa3_eq (r : FVec F S1024x256 .f32) :
    k0_pay45 (k0_pay39 r) (k0_pay42 (k0_pay40 r) (k0_pay41 r) 16#32) 127#32
      = xa4 (extractStridedSlice S1024x128 ![0, 128] r slices_S1024x256_o0_128_S1024x128) := rfl

theorem scale3_eq (r : FVec F S1024x256 .f32) :
    k0_pay43 (F := F) (k0_pay42 (k0_pay40 r) (k0_pay41 r) 16#32) 127#32
      = scaleCol (amaxCol (extractStridedSlice S1024x128 ![0, 128] r slices_S1024x256_o0_128_S1024x128)) := rfl

/-! ## The scratch -/

/-- Chunk `k` of slot `s` of the scratch. -/
def chunk (X : S2x16x1024x512.Idx → Elt F .bf16) (s k : ℕ) : Vec F S1x1x1024x512 .bf16 := fun y =>
  X fun a => match a with
    | ⟨0, _⟩ => ⟨s % 2, Nat.mod_lt _ (by decide)⟩
    | ⟨1, _⟩ => ⟨k % 16, Nat.mod_lt _ (by decide)⟩
    | ⟨2, _⟩ => y 2
    | ⟨3, _⟩ => y 3

/-- A load of one chunk. -/
theorem ld_chunk (X : S2x16x1024x512.Idx → Elt F .bf16) (s k : ℕ) (off : Fin 4 → ℕ) (ho : off = ![s % 2, k, 0, 0]) (hk : k < 16)
    (hb : ∀ a, off a + S1x1x1024x512.size a ≤ S2x16x1024x512.size a) :
    (View.ld X (Rect.unit (s := S2x16x1024x512) off S1x1x1024x512.size hb) : Vec F S1x1x1024x512 .bf16) = chunk X s k := by
  subst ho
  funext y
  unfold chunk View.ld
  refine congrArg X (funext fun a => Fin.ext ?_)
  have h0 : (y 0).val < 1 := (y 0).isLt
  have h1 : (y 1).val < 1 := (y 1).isLt
  match a with
  | ⟨0, _⟩ =>
    show s % 2 + 1 * (y 0).val = s % 2
    omega
  | ⟨1, _⟩ =>
    show k + 1 * (y 1).val = k % 16
    omega
  | ⟨2, _⟩ =>
    show 0 + 1 * (y 2).val = (y 2).val
    omega
  | ⟨3, _⟩ =>
    show 0 + 1 * (y 3).val = (y 3).val
    omega

/-! ## A row block times a block of weights -/

/-- Rows `512 k` to `512 k + 511` of the block of weights. -/
def wRows (w : S8192x512.Idx → Elt F .fp8e4m3) (k : ℕ) : Vec F S512x512 .fp8e4m3 :=
  fun y => w fun a => match a with
    | ⟨0, _⟩ => ⟨(512 * k + (y 0).val) % 8192, Nat.mod_lt _ (by decide)⟩
    | ⟨1, _⟩ => y 1

/-- The product of one chunk of a row block with its rows of the weights. -/
def chunkDot (C : Vec F S1x1x1024x512 .bf16) (w : Vec F S512x512 .fp8e4m3) : FVec F S1024x512 .f32 :=
  matmul dot_S1024x512_S512x512_S1024x512_1_0_0_1_n_n none (shapeCast S1024x512 C shapeCasts_S1x1x1024x512_S1024x512) w
    (constant S1024x512 .f32 0x00000000#32)

/-- The sum of the first `k + 1` products. -/
def accTo (C : ℕ → Vec F S1x1x1024x512 .bf16) (W : ℕ → Vec F S512x512 .fp8e4m3) : ℕ → FVec F S1024x512 .f32
  | 0 => chunkDot (C 0) (W 0)
  | k + 1 => addf (accTo C W k) (chunkDot (C (k + 1)) (W (k + 1)))

/-- The block of results of a row block's sixteen chunks `C`, the weights `w` and their scales `s`. -/
def yBlk (C : ℕ → Vec F S1x1x1024x512 .bf16) (w : S8192x512.Idx → Elt F .fp8e4m3) (s : S1x512.Idx → Elt F .f32) : FVec F S1024x512 .bf16 :=
  truncf .bf16 (mulf (accTo C (wRows w) 15)
    (broadcastTo S1024x512 (shapeCast S1x512 (View.ld s (Rect.unit (s := S1x512) ![0, 0] S1x512.size inb_S1x512_S1x512_0_0) : Vec F S1x512 .f32)
      shapeCasts_S1x512_S1x512) broadcasts_S1x512_S1024x512))
    bitsLt_bf16_f32

theorem acc_eq (C : ℕ → Vec F S1x1x1024x512 .bf16) (W : ℕ → Vec F S512x512 .fp8e4m3) (s : Vec F S1x512 .f32) :
    k0_pay2 (k0_pay52 (k0_pay50 (k0_pay48 (C 0) (W 0) (C 1) (W 1) (C 2) (W 2)) (k0_pay49 (C 3)) (W 3) (C 4) (W 4) (C 5) (W 5) (C 6) (W 6) (C 7) (W 7))
        (k0_pay51 (C 8)) (W 8) (C 9) (W 9) (C 10) (W 10) (C 11) (W 11) (C 12) (W 12))
      (k0_pay53 (C 13)) (W 13) (C 14) (W 14) (C 15) (W 15) s
      = truncf .bf16 (mulf (accTo C W 15) (broadcastTo S1024x512 (shapeCast S1x512 s shapeCasts_S1x512_S1x512) broadcasts_S1x512_S1024x512)) bitsLt_bf16_f32 := rfl

/-- A load of 512 rows of the weights. -/
theorem ld_wRows (w : S8192x512.Idx → Elt F .fp8e4m3) (k o : ℕ) (ho : o = 512 * k) (hk : k < 16)
    (hb : ∀ a, ![o, 0] a + S512x512.size a ≤ S8192x512.size a) :
    (View.ld w (Rect.unit (s := S8192x512) ![o, 0] S512x512.size hb) : Vec F S512x512 .fp8e4m3) = wRows w k := by
  subst ho
  funext y
  unfold wRows View.ld
  refine congrArg w (funext fun a => ?_)
  have h0 : (y 0).val < 512 := (y 0).isLt
  refine Fin.ext ?_
  match a with
  | ⟨0, _⟩ =>
    show 512 * k + 1 * (y 0).val = (512 * k + (y 0).val) % 8192
    omega
  | ⟨1, _⟩ =>
    show 0 + 1 * (y 1).val = (y 1).val
    omega

end Cert.KernelIdeal.Hand

end
-- ==== Proof.IdealBody.lean ====
module

public import proofs.«01_k».proof.Proof.Gen.KernelIdeal.Frame
public import proofs.«01_k».proof.Proof.Payload
public import Idealize.ShloMosaic.Lib.WritesUnit

/-!
  The body of the kernel at one grid point: the preparation of one column block, then the product of one row block with one
  block of weights, each where its condition holds. Each is executed once, and what it leaves is read as the functions of
  the blocks it reads.
-/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The elements a memref names, whole, at contents `f`. -/
abbrev pt {sp : Space} {S : Shape} {e : EltTy} (c : Dev nD) (M : Memref sig .tc sp S e) (f : Buf (Elt F) (M.view.loc (c : Thread nD τ))) : sProp 𝕄 :=
  iprop(M.view.loc (c : Thread nD τ) ↦[M.view.set]{fullShare} f)

/-! ## The grid's conditions and offsets -/

theorem cond1_iff : ∀ i : grid0.Coords, k0_cond1 i = 1#1 ↔ (i 0).val < 16 ∧ (i 1).val < 16 := by decide +kernel
theorem cond2_iff : ∀ i : grid0.Coords, k0_cond2 i = 1#1 ↔ 0 < (i 0).val := by decide +kernel
theorem off6_eq : ∀ i : grid0.Coords, k0_off6 i = ![((i 0).val + 1) % 2, 0, 0, 0] := by decide +kernel
theorem off7_eq : ∀ i : grid0.Coords, k0_off7 i = ![((i 0).val + 1) % 2, 1, 0, 0] := by decide +kernel
theorem off8_eq : ∀ i : grid0.Coords, k0_off8 i = ![((i 0).val + 1) % 2, 2, 0, 0] := by decide +kernel
theorem off9_eq : ∀ i : grid0.Coords, k0_off9 i = ![((i 0).val + 1) % 2, 3, 0, 0] := by decide +kernel
theorem off10_eq : ∀ i : grid0.Coords, k0_off10 i = ![((i 0).val + 1) % 2, 4, 0, 0] := by decide +kernel
theorem off11_eq : ∀ i : grid0.Coords, k0_off11 i = ![((i 0).val + 1) % 2, 5, 0, 0] := by decide +kernel
theorem off12_eq : ∀ i : grid0.Coords, k0_off12 i = ![((i 0).val + 1) % 2, 6, 0, 0] := by decide +kernel
theorem off13_eq : ∀ i : grid0.Coords, k0_off13 i = ![((i 0).val + 1) % 2, 7, 0, 0] := by decide +kernel
theorem off14_eq : ∀ i : grid0.Coords, k0_off14 i = ![((i 0).val + 1) % 2, 8, 0, 0] := by decide +kernel
theorem off15_eq : ∀ i : grid0.Coords, k0_off15 i = ![((i 0).val + 1) % 2, 9, 0, 0] := by decide +kernel
theorem off16_eq : ∀ i : grid0.Coords, k0_off16 i = ![((i 0).val + 1) % 2, 10, 0, 0] := by decide +kernel
theorem off17_eq : ∀ i : grid0.Coords, k0_off17 i = ![((i 0).val + 1) % 2, 11, 0, 0] := by decide +kernel
theorem off18_eq : ∀ i : grid0.Coords, k0_off18 i = ![((i 0).val + 1) % 2, 12, 0, 0] := by decide +kernel
theorem off19_eq : ∀ i : grid0.Coords, k0_off19 i = ![((i 0).val + 1) % 2, 13, 0, 0] := by decide +kernel
theorem off20_eq : ∀ i : grid0.Coords, k0_off20 i = ![((i 0).val + 1) % 2, 14, 0, 0] := by decide +kernel
theorem off21_eq : ∀ i : grid0.Coords, k0_off21 i = ![((i 0).val + 1) % 2, 15, 0, 0] := by decide +kernel

variable (c : Dev nD) (i : grid0.Coords)
    (arg2 : Memref sig .tc .vmem S1024x512 .bf16) (harg2 : arg2.IsWhole) (arg3 : Memref sig .tc .vmem S256x256 .bf16) (harg3 : arg3.IsWhole)
    (arg4 : Memref sig .tc .vmem S8192x512 .fp8e4m3) (harg4 : arg4.IsWhole) (arg5 : Memref sig .tc .vmem S1x512 .f32) (harg5 : arg5.IsWhole)
    (arg6 : Memref sig .tc .vmem S1024x512 .bf16) (harg6 : arg6.IsWhole) (arg7 : Memref sig .tc .vmem S1024x512 .fp8e4m3) (harg7 : arg7.IsWhole)
    (arg8 : Memref sig .tc .vmem S1024x64 .f32) (harg8 : arg8.IsWhole) (arg9 : Memref sig .tc .vmem S2x16x1024x512 .bf16) (harg9 : arg9.IsWhole)

/-- The preparation of one column block. -/
def prepProg (h1 : k0_cond1 i = 1#1) : Prog (TpuEff nD τ sig (Elt F) Λ₀ .tc) PUnit := do
  let ⟨v361, v466, v467⟩ : Σ' (v361 : FVec F S1024x64 .f32) (v466 : IVec S1024x64 1), FVec F S1024x1 .f32 ← k0_part11 i arg2 harg2 arg3 harg3 arg4 harg4 arg5 harg5 arg6 harg6 arg7 harg7 arg8 harg8 arg9 harg9 (BitVec.ofNat 32 (i 0).val) (BitVec.ofNat 32 (i 1).val) h1
  let v470 : Vec F S1024x64 .f32 ← Prog.lift (.load arg8 (Rect.unit (s := S1024x64) ![0, 0] S1024x64.size inb_S1024x64_S1024x64_0_0).toLoadRect (View.loadsAt_vmem h_S1024x64))
  Prog.lift (.store arg8 (Rect.unit (s := S1024x64) ![0, 0] S1024x64.size inb_S1024x64_S1024x64_0_0) (k0_pay1 v361 v466 v467) Finset.univ (View.stores_vmem_bits_univ h_S1024x64 rfl) (.inl rfl))
  pure ⟨⟩

/-- The product of one row block with one block of weights. -/
def mainProg (h2 : k0_cond2 i = 1#1) : Prog (TpuEff nD τ sig (Elt F) Λ₀ .tc) PUnit := do
  let ⟨v18, v35, v38⟩ : Σ' (v18 : BitVec 32) (v35 : FVec F S1024x512 .f32), FVec F S1024x512 .bf16 ← k0_part12 i arg2 harg2 arg3 harg3 arg4 harg4 arg5 harg5 arg6 harg6 arg7 harg7 arg8 harg8 arg9 harg9 (BitVec.ofNat 32 (i 0).val) h2
  let ⟨v65, v68⟩ : Σ' (v65 : FVec F S1024x512 .f32), FVec F S1024x512 .bf16 ← k0_part13 i arg2 harg2 arg3 harg3 arg4 harg4 arg5 harg5 arg6 harg6 arg7 harg7 arg8 harg8 arg9 harg9 h2 v18 v35 v38
  let ⟨v95, v98⟩ : Σ' (v95 : FVec F S1024x512 .f32), FVec F S1024x512 .bf16 ← k0_part14 i arg2 harg2 arg3 harg3 arg4 harg4 arg5 harg5 arg6 harg6 arg7 harg7 arg8 harg8 arg9 harg9 h2 v18 v65 v68
  let v99 : Vec F S512x512 .fp8e4m3 ← Prog.lift (.load arg4 (Rect.unit (s := S8192x512) ![6656, 0] S512x512.size inb_S8192x512_S512x512_6656_0).toLoadRect (View.loadsAt_vmem h_S512x512))
  let v103 : Vec F S1x1x1024x512 .bf16 ← Prog.lift (.load arg9 (Rect.unit (s := S2x16x1024x512) (k0_off20 i) S1x1x1024x512.size (k0_off20_inb i h2)).toLoadRect (View.loadsAt_vmem h_S1x1x1024x512))
  let v105 : Vec F S512x512 .fp8e4m3 ← Prog.lift (.load arg4 (Rect.unit (s := S8192x512) ![7168, 0] S512x512.size inb_S8192x512_S512x512_7168_0).toLoadRect (View.loadsAt_vmem h_S512x512))
  let v109 : Vec F S1x1x1024x512 .bf16 ← Prog.lift (.load arg9 (Rect.unit (s := S2x16x1024x512) (k0_off21 i) S1x1x1024x512.size (k0_off21_inb i h2)).toLoadRect (View.loadsAt_vmem h_S1x1x1024x512))
  let v111 : Vec F S512x512 .fp8e4m3 ← Prog.lift (.load arg4 (Rect.unit (s := S8192x512) ![7680, 0] S512x512.size inb_S8192x512_S512x512_7680_0).toLoadRect (View.loadsAt_vmem h_S512x512))
  let v114 : Vec F S1x512 .f32 ← Prog.lift (.load arg5 (Rect.unit (s := S1x512) ![0, 0] S1x512.size inb_S1x512_S1x512_0_0).toLoadRect (View.loadsAt_vmem h_S1x512))
  let v119 : Vec F S1024x512 .bf16 ← Prog.lift (.load arg6 (Rect.unit (s := S1024x512) ![0, 0] S1024x512.size inb_S1024x512_S1024x512_0_0).toLoadRect (View.loadsAt_vmem h_S1024x512))
  Prog.lift (.store arg6 (Rect.unit (s := S1024x512) ![0, 0] S1024x512.size inb_S1024x512_S1024x512_0_0) (k0_pay2 v95 v98 v99 v103 v105 v109 v111 v114) Finset.univ (View.stores_vmem h_S1024x512 (harg6.storeExact_slice rfl _ packedbf16_S1024x512_S1024x512_0_0) (fun _ => rfl)) (.inl rfl))
  pure ⟨⟩

/-- The body is the one then the other, each where its condition holds. -/
theorem body_eq : cc0_quarot_linear (F := F) i arg2 harg2 arg3 harg3 arg4 harg4 arg5 harg5 arg6 harg6 arg7 harg7 arg8 harg8 arg9 harg9
    = (if h1 : k0_cond1 i = 1#1 then prepProg i arg2 harg2 arg3 harg3 arg4 harg4 arg5 harg5 arg6 harg6 arg7 harg7 arg8 harg8 arg9 harg9 h1 else pure ⟨⟩) >>= fun _ =>
        (if h2 : k0_cond2 i = 1#1 then mainProg i arg2 harg2 arg3 harg3 arg4 harg4 arg5 harg5 arg6 harg6 arg7 harg7 arg8 harg8 arg9 harg9 h2 else pure ⟨⟩) >>= fun _ => pure ⟨⟩ :=
by
    rw [cc0_quarot_linear_eq_skeleton]
    unfold cc0_quarot_linear_skel
    by_cases h1 : k0_cond1 i = 1#1 <;> by_cases h2 : k0_cond2 i = 1#1 <;> simp only [h1, h2, dite_true, dite_false] <;> rfl

/-! ## The preparation -/

/-- The preparation executed: the pieces it writes. -/
def prepRun (h1 : k0_cond1 i = 1#1)
    (f2 : Buf (Elt F) (arg2.view.loc (c : Thread nD τ))) (f3 : Buf (Elt F) (arg3.view.loc (c : Thread nD τ)))
    (f8 : Buf (Elt F) (arg8.view.loc (c : Thread nD τ))) :
    { L : List (View.Piece (Elt F) S1024x512 .fp8e4m3) × List (View.Piece (Elt F) S1024x64 .f32) × List (View.Piece (Elt F) S2x16x1024x512 .bf16) //
      ∀ (f9 : Buf (Elt F) (arg9.view.loc (c : Thread nD τ))) (f7 : Buf (Elt F) (arg7.view.loc (c : Thread nD τ))) (K : PUnit → sProp 𝕄),
        iprop(pt c arg2 f2 ∗ pt c arg3 f3 ∗ pt c arg7 f7 ∗ pt c arg8 f8 ∗ pt c arg9 f9
          ∗ (iprop(pt c arg2 f2 ∗ pt c arg3 f3 ∗ pt c arg7 (arg7.view.writes (Elt F) f7 L.1)
              ∗ pt c arg8 (arg8.view.writes (Elt F) f8 L.2.1) ∗ pt c arg9 (arg9.view.writes (Elt F) f9 L.2.2)) -∗ K ⟨⟩))
        ⊢ wp frame (wpE (defs₀ (F := F)) Variants.none c none) Set.univ (prepProg i arg2 harg2 arg3 harg3 arg4 harg4 arg5 harg5 arg6 harg6 arg7 harg7 arg8 harg8 arg9 harg9 h1) K } := by
  refine ⟨⟨?_, ?_, ?_⟩, fun f9 f7 K => ?run⟩
  case run =>
    unfold prepProg
    iintro ⟨H2, H3, H7, H8, H9, Hk⟩
    sl_exec
    sl_step
    iapply Hk
    isplitl [H2]; · iexact H2
    isplitl [H3]; · iexact H3
    isplitl [H7]; · iexact H7
    isplitl [H8]; · iexact H8
    iexact H9

/-- They are the blocks of codes, of scales and of codes times scales. -/
theorem prepRun_pieces (h1 : k0_cond1 i = 1#1)
    (f2 : Buf (Elt F) (arg2.view.loc (c : Thread nD τ))) (f3 : Buf (Elt F) (arg3.view.loc (c : Thread nD τ)))
    (f8 : Buf (Elt F) (arg8.view.loc (c : Thread nD τ))) :
    (prepRun c i arg2 harg2 arg3 harg3 arg4 harg4 arg5 harg5 arg6 harg6 arg7 harg7 arg8 harg8 arg9 harg9 h1 f2 f3 f8).1
      = ⟨codesPieces (arg2.view.read (Elt F) f2) (arg3.view.read (Elt F) f3),
        [⟨Rect.unit (s := S1024x64) ![0, 0] S1024x64.size inb_S1024x64_S1024x64_0_0,
          scaleBlk (arg2.view.read (Elt F) f2) (arg3.view.read (Elt F) f3) (BitVec.ofNat 32 (i 1).val) (arg8.view.read (Elt F) f8)⟩],
        xaPieces (arg2.view.read (Elt F) f2) (arg3.view.read (Elt F) f3) i h1⟩ := rfl

/-! ## The product -/

/-- The product executed: the pieces it writes. -/
def mainRun (h2 : k0_cond2 i = 1#1)
    (f4 : Buf (Elt F) (arg4.view.loc (c : Thread nD τ))) (f5 : Buf (Elt F) (arg5.view.loc (c : Thread nD τ)))
    (f9 : Buf (Elt F) (arg9.view.loc (c : Thread nD τ))) :
    { L : List (View.Piece (Elt F) S1024x512 .bf16) //
      ∀ (f6 : Buf (Elt F) (arg6.view.loc (c : Thread nD τ))) (K : PUnit → sProp 𝕄),
        iprop(pt c arg4 f4 ∗ pt c arg5 f5 ∗ pt c arg6 f6 ∗ pt c arg9 f9
          ∗ (iprop(pt c arg4 f4 ∗ pt c arg5 f5 ∗ pt c arg6 (arg6.view.writes (Elt F) f6 L) ∗ pt c arg9 f9) -∗ K ⟨⟩))
        ⊢ wp frame (wpE (defs₀ (F := F)) Variants.none c none) Set.univ (mainProg i arg2 harg2 arg3 harg3 arg4 harg4 arg5 harg5 arg6 harg6 arg7 harg7 arg8 harg8 arg9 harg9 h2) K } := by
  refine ⟨?_, fun f6 K => ?run⟩
  case run =>
    unfold mainProg
    iintro ⟨H4, H5, H6, H9, Hk⟩
    sl_exec
    sl_step
    iapply Hk
    isplitl [H4]; · iexact H4
    isplitl [H5]; · iexact H5
    isplitl [H6]; · iexact H6
    iexact H9

/-- It is the block of results of the sixteen chunks in the slot that the preparation is not filling. -/
theorem mainRun_pieces (h2 : k0_cond2 i = 1#1)
    (f4 : Buf (Elt F) (arg4.view.loc (c : Thread nD τ))) (f5 : Buf (Elt F) (arg5.view.loc (c : Thread nD τ)))
    (f9 : Buf (Elt F) (arg9.view.loc (c : Thread nD τ))) :
    (mainRun c i arg2 harg2 arg3 harg3 arg4 harg4 arg5 harg5 arg6 harg6 arg7 harg7 arg8 harg8 arg9 harg9 h2 f4 f5 f9).1
      = [⟨Rect.unit (s := S1024x512) ![0, 0] S1024x512.size inb_S1024x512_S1024x512_0_0,
          yBlk (chunk (arg9.view.read (Elt F) f9) ((i 0).val + 1)) (arg4.view.read (Elt F) f4) (arg5.view.read (Elt F) f5)⟩] := by
  have e : (mainRun c i arg2 harg2 arg3 harg3 arg4 harg4 arg5 harg5 arg6 harg6 arg7 harg7 arg8 harg8 arg9 harg9 h2 f4 f5 f9).1
      = [⟨Rect.unit (s := S1024x512) ![0, 0] S1024x512.size inb_S1024x512_S1024x512_0_0,
          k0_pay2 (k0_pay52 (k0_pay50 (k0_pay48 (View.ld (arg9.view.read (Elt F) f9) (Rect.unit (s := S2x16x1024x512) (k0_off6 i) S1x1x1024x512.size (k0_off6_inb i h2)))
        (View.ld (arg4.view.read (Elt F) f4) (Rect.unit (s := S8192x512) ![0, 0] S512x512.size inb_S8192x512_S512x512_0_0)) (View.ld (arg9.view.read (Elt F) f9) (Rect.unit (s := S2x16x1024x512) (k0_off7 i) S1x1x1024x512.size (k0_off7_inb i h2)))
        (View.ld (arg4.view.read (Elt F) f4) (Rect.unit (s := S8192x512) ![512, 0] S512x512.size inb_S8192x512_S512x512_512_0)) (View.ld (arg9.view.read (Elt F) f9) (Rect.unit (s := S2x16x1024x512) (k0_off8 i) S1x1x1024x512.size (k0_off8_inb i h2)))
        (View.ld (arg4.view.read (Elt F) f4) (Rect.unit (s := S8192x512) ![1024, 0] S512x512.size inb_S8192x512_S512x512_1024_0)))
              (k0_pay49 (View.ld (arg9.view.read (Elt F) f9) (Rect.unit (s := S2x16x1024x512) (k0_off9 i) S1x1x1024x512.size (k0_off9_inb i h2)))) (View.ld (arg4.view.read (Elt F) f4) (Rect.unit (s := S8192x512) ![1536, 0] S512x512.size inb_S8192x512_S512x512_1536_0)) (View.ld (arg9.view.read (Elt F) f9) (Rect.unit (s := S2x16x1024x512) (k0_off10 i) S1x1x1024x512.size (k0_off10_inb i h2)))
        (View.ld (arg4.view.read (Elt F) f4) (Rect.unit (s := S8192x512) ![2048, 0] S512x512.size inb_S8192x512_S512x512_2048_0)) (View.ld (arg9.view.read (Elt F) f9) (Rect.unit (s := S2x16x1024x512) (k0_off11 i) S1x1x1024x512.size (k0_off11_inb i h2)))
        (View.ld (arg4.view.read (Elt F) f4) (Rect.unit (s := S8192x512) ![2560, 0] S512x512.size inb_S8192x512_S512x512_2560_0)) (View.ld (arg9.view.read (Elt F) f9) (Rect.unit (s := S2x16x1024x512) (k0_off12 i) S1x1x1024x512.size (k0_off12_inb i h2)))
        (View.ld (arg4.view.read (Elt F) f4) (Rect.unit (s := S8192x512) ![3072, 0] S512x512.size inb_S8192x512_S512x512_3072_0)) (View.ld (arg9.view.read (Elt F) f9) (Rect.unit (s := S2x16x1024x512) (k0_off13 i) S1x1x1024x512.size (k0_off13_inb i h2)))
        (View.ld (arg4.view.read (Elt F) f4) (Rect.unit (s := S8192x512) ![3584, 0] S512x512.size inb_S8192x512_S512x512_3584_0)))
            (k0_pay51 (View.ld (arg9.view.read (Elt F) f9) (Rect.unit (s := S2x16x1024x512) (k0_off14 i) S1x1x1024x512.size (k0_off14_inb i h2)))) (View.ld (arg4.view.read (Elt F) f4) (Rect.unit (s := S8192x512) ![4096, 0] S512x512.size inb_S8192x512_S512x512_4096_0)) (View.ld (arg9.view.read (Elt F) f9) (Rect.unit (s := S2x16x1024x512) (k0_off15 i) S1x1x1024x512.size (k0_off15_inb i h2)))
        (View.ld (arg4.view.read (Elt F) f4) (Rect.unit (s := S8192x512) ![4608, 0] S512x512.size inb_S8192x512_S512x512_4608_0)) (View.ld (arg9.view.read (Elt F) f9) (Rect.unit (s := S2x16x1024x512) (k0_off16 i) S1x1x1024x512.size (k0_off16_inb i h2)))
        (View.ld (arg4.view.read (Elt F) f4) (Rect.unit (s := S8192x512) ![5120, 0] S512x512.size inb_S8192x512_S512x512_5120_0)) (View.ld (arg9.view.read (Elt F) f9) (Rect.unit (s := S2x16x1024x512) (k0_off17 i) S1x1x1024x512.size (k0_off17_inb i h2)))
        (View.ld (arg4.view.read (Elt F) f4) (Rect.unit (s := S8192x512) ![5632, 0] S512x512.size inb_S8192x512_S512x512_5632_0)) (View.ld (arg9.view.read (Elt F) f9) (Rect.unit (s := S2x16x1024x512) (k0_off18 i) S1x1x1024x512.size (k0_off18_inb i h2)))
        (View.ld (arg4.view.read (Elt F) f4) (Rect.unit (s := S8192x512) ![6144, 0] S512x512.size inb_S8192x512_S512x512_6144_0)))
            (k0_pay53 (View.ld (arg9.view.read (Elt F) f9) (Rect.unit (s := S2x16x1024x512) (k0_off19 i) S1x1x1024x512.size (k0_off19_inb i h2)))) (View.ld (arg4.view.read (Elt F) f4) (Rect.unit (s := S8192x512) ![6656, 0] S512x512.size inb_S8192x512_S512x512_6656_0)) (View.ld (arg9.view.read (Elt F) f9) (Rect.unit (s := S2x16x1024x512) (k0_off20 i) S1x1x1024x512.size (k0_off20_inb i h2)))
        (View.ld (arg4.view.read (Elt F) f4) (Rect.unit (s := S8192x512) ![7168, 0] S512x512.size inb_S8192x512_S512x512_7168_0)) (View.ld (arg9.view.read (Elt F) f9) (Rect.unit (s := S2x16x1024x512) (k0_off21 i) S1x1x1024x512.size (k0_off21_inb i h2)))
        (View.ld (arg4.view.read (Elt F) f4) (Rect.unit (s := S8192x512) ![7680, 0] S512x512.size inb_S8192x512_S512x512_7680_0))
            (View.ld (arg5.view.read (Elt F) f5) (Rect.unit (s := S1x512) ![0, 0] S1x512.size inb_S1x512_S1x512_0_0))⟩] := rfl
  rw [e]
  have hw : ∀ k o, o = 512 * k → k < 16 → ∀ hb : (∀ a, ![o, 0] a + S512x512.size a ≤ S8192x512.size a),
      (View.ld (arg4.view.read (Elt F) f4) (Rect.unit (s := S8192x512) ![o, 0] S512x512.size hb) : Vec F S512x512 .fp8e4m3) = wRows (arg4.view.read (Elt F) f4) k := fun k o ho hk hb => ld_wRows _ k o ho hk hb
  have hc : ∀ k off, off = ![((i 0).val + 1) % 2, k, 0, 0] → k < 16 → ∀ hb : (∀ a, off a + S1x1x1024x512.size a ≤ S2x16x1024x512.size a),
      (View.ld (arg9.view.read (Elt F) f9) (Rect.unit (s := S2x16x1024x512) off S1x1x1024x512.size hb) : Vec F S1x1x1024x512 .bf16) = chunk (arg9.view.read (Elt F) f9) ((i 0).val + 1) k :=
    fun k off ho hk hb => ld_chunk _ _ k off ho hk hb
  rw [hw 0 0 rfl (by decide), hc 0 _ (off6_eq i) (by decide), hw 1 512 rfl (by decide), hc 1 _ (off7_eq i) (by decide), hw 2 1024 rfl (by decide), hc 2 _ (off8_eq i) (by decide), hw 3 1536 rfl (by decide), hc 3 _ (off9_eq i) (by decide), hw 4 2048 rfl (by decide), hc 4 _ (off10_eq i) (by decide), hw 5 2560 rfl (by decide), hc 5 _ (off11_eq i) (by decide), hw 6 3072 rfl (by decide), hc 6 _ (off12_eq i) (by decide), hw 7 3584 rfl (by decide), hc 7 _ (off13_eq i) (by decide), hw 8 4096 rfl (by decide), hc 8 _ (off14_eq i) (by decide), hw 9 4608 rfl (by decide), hc 9 _ (off15_eq i) (by decide), hw 10 5120 rfl (by decide), hc 10 _ (off16_eq i) (by decide), hw 11 5632 rfl (by decide), hc 11 _ (off17_eq i) (by decide), hw 12 6144 rfl (by decide), hc 12 _ (off18_eq i) (by decide), hw 13 6656 rfl (by decide), hc 13 _ (off19_eq i) (by decide), hw 14 7168 rfl (by decide), hc 14 _ (off20_eq i) (by decide), hw 15 7680 rfl (by decide), hc 15 _ (off21_eq i) (by decide)]
  exact congrArg (fun w => [(⟨Rect.unit (s := S1024x512) ![0, 0] S1024x512.size inb_S1024x512_S1024x512_0_0, w⟩ : View.Piece (Elt F) S1024x512 .bf16)])
    (acc_eq (chunk (arg9.view.read (Elt F) f9) ((i 0).val + 1)) (wRows (arg4.view.read (Elt F) f4)) _)

end Cert.KernelIdeal.Hand

end
-- ==== Proof.Pieces.lean ====
module

public import proofs.«01_k».proof.Proof.Payload
public import Idealize.ShloMosaic.Lib.WritesUnit

/-!
  What the pieces of the body leave in the buffers they are written to: the block of codes, the chunk of the scratch, and
  the two blocks that are stored whole.
-/

@[expose] public section

set_option maxRecDepth 16384

noncomputable section

namespace Cert.KernelIdeal.Hand

open Cert.KernelIdeal Cert.KernelIdeal.Gen
open Idealize.ShloMosaic

variable {F : FTy → Type} [FloatOps F]

section Views

variable {sp : Space} {e : EltTy}

/-! ## One column group of a block -/

variable (v : View sig .tc sp S1024x512 e) (f : v.ty.Contents (Elt F))

theorem read_group_hit (o : ℕ) (hb : ∀ a, ![0, o] a + S1024x128.size a ≤ S1024x512.size a) (g : S1024x128.Idx → Elt F e)
    (L : List (View.Piece (Elt F) S1024x512 e)) (y : S1024x512.Idx) (hlo : o ≤ (y 1).val) (hhi : (y 1).val < o + 128) (ho : o % 128 = 0) :
    v.read (Elt F) (v.writes (Elt F) f (⟨Rect.unit (s := S1024x512) ![0, o] S1024x128.size hb, g⟩ :: L)) y
      = g (gidx (y 0) (y 1).val) :=
  View.read_writes_cons_unit_of_mem v f hb g L y _ rfl fun a => match a with
    | ⟨0, _⟩ => by show (y 0).val = 0 + (y 0).val; omega
    | ⟨1, _⟩ => by show (y 1).val = o + (y 1).val % 128; omega

theorem read_group_miss (o : ℕ) (hb : ∀ a, ![0, o] a + S1024x128.size a ≤ S1024x512.size a) (g : S1024x128.Idx → Elt F e)
    (L : List (View.Piece (Elt F) S1024x512 e)) (y : S1024x512.Idx) (hlo : (y 1).val < o) :
    v.read (Elt F) (v.writes (Elt F) f (⟨Rect.unit (s := S1024x512) ![0, o] S1024x128.size hb, g⟩ :: L)) y
      = v.read (Elt F) (v.writes (Elt F) f L) y :=
  View.read_writes_cons_unit_of_not_mem v f hb g L y rfl 1 (.inl (show (y 1).val < o from hlo))

/-! ## One column group of a chunk of the scratch -/

variable (u : View sig .tc sp S2x16x1024x512 e) (d : u.ty.Contents (Elt F))

theorem read_xgroup_hit (off : Fin 4 → ℕ) (s n o : ℕ) (heq : off = ![s, n, 0, o])
    (hb : ∀ a, off a + S1x1x1024x128.size a ≤ S2x16x1024x512.size a) (g : S1x1x1024x128.Idx → Elt F e)
    (L : List (View.Piece (Elt F) S2x16x1024x512 e)) (y : S2x16x1024x512.Idx) (h0 : (y 0).val = s) (h1 : (y 1).val = n)
    (hlo : o ≤ (y 3).val) (hhi : (y 3).val < o + 128) (ho : o % 128 = 0) :
    u.read (Elt F) (u.writes (Elt F) d (⟨Rect.unit (s := S2x16x1024x512) off S1x1x1024x128.size hb, g⟩ :: L)) y
      = g (xidx (y 2) (y 3).val) :=
  View.read_writes_cons_unit_of_mem u d hb g L y _ heq fun a => match a with
    | ⟨0, _⟩ => by show (y 0).val = s + 0; omega
    | ⟨1, _⟩ => by show (y 1).val = n + 0; omega
    | ⟨2, _⟩ => by show (y 2).val = 0 + (y 2).val; omega
    | ⟨3, _⟩ => by show (y 3).val = o + (y 3).val % 128; omega

theorem read_xgroup_miss (off : Fin 4 → ℕ) (s n o : ℕ) (heq : off = ![s, n, 0, o])
    (hb : ∀ a, off a + S1x1x1024x128.size a ≤ S2x16x1024x512.size a) (g : S1x1x1024x128.Idx → Elt F e)
    (L : List (View.Piece (Elt F) S2x16x1024x512 e)) (y : S2x16x1024x512.Idx) (h : (y 0).val ≠ s ∨ (y 1).val ≠ n ∨ (y 3).val < o) :
    u.read (Elt F) (u.writes (Elt F) d (⟨Rect.unit (s := S2x16x1024x512) off S1x1x1024x128.size hb, g⟩ :: L)) y
      = u.read (Elt F) (u.writes (Elt F) d L) y := by
  rcases h with h | h | h
  · exact View.read_writes_cons_unit_of_not_mem u d hb g L y heq 0 (by
      show (y 0).val < s ∨ s + 1 ≤ (y 0).val
      omega)
  · exact View.read_writes_cons_unit_of_not_mem u d hb g L y heq 1 (by
      show (y 1).val < n ∨ n + 1 ≤ (y 1).val
      omega)
  · exact View.read_writes_cons_unit_of_not_mem u d hb g L y heq 3 (.inl h)

/-! ## A whole store -/

theorem read_whole {S : Shape} (w : View sig .tc sp S e) (q : w.ty.Contents (Elt F)) (off : Fin S.rank → ℕ) (heq : off = fun _ => 0)
    (hb : ∀ a, off a + S.size a ≤ S.size a) (g : S.Idx → Elt F e) :
    w.read (Elt F) (w.writes (Elt F) q [⟨Rect.unit (s := S) off S.size hb, g⟩]) = g :=
  funext fun y => View.read_writes_cons_unit_of_mem w q hb g [] y y heq fun a => by
    show (y a).val = 0 + (y a).val
    omega

end Views

/-! ## The block of codes -/

theorem read_codes {sp : Space} (v : View sig .tc sp S1024x512 .fp8e4m3) (f : v.ty.Contents (Elt F)) (x : Vec F S1024x512 .bf16) (h : Vec F S256x256 .bf16) :
    v.read (Elt F) (v.writes (Elt F) f (codesPieces x h)) = codesBlk x h := by
  funext y
  have hy1 : (y 1).val < 512 := (y 1).isLt
  unfold codesPieces
  by_cases h3 : 384 ≤ (y 1).val
  · refine (read_group_hit v f _ _ _ _ y h3 (by omega) (by decide)).trans ?_
    unfold codesBlk
    rw [show (y 1).val / 128 = 3 by omega]; rfl
  refine (read_group_miss v f _ _ _ _ y (by omega)).trans ?_
  by_cases h2 : 256 ≤ (y 1).val
  · refine (read_group_hit v f _ _ _ _ y h2 (by omega) (by decide)).trans ?_
    unfold codesBlk
    rw [show (y 1).val / 128 = 2 by omega]; rfl
  refine (read_group_miss v f _ _ _ _ y (by omega)).trans ?_
  by_cases h1 : 128 ≤ (y 1).val
  · refine (read_group_hit v f _ _ _ _ y h1 (by omega) (by decide)).trans ?_
    unfold codesBlk
    rw [show (y 1).val / 128 = 1 by omega]; rfl
  refine (read_group_miss v f _ _ _ _ y (by omega)).trans ?_
  refine (read_group_hit v f _ _ _ _ y (by omega) (by omega) (by decide)).trans ?_
  unfold codesBlk
  rw [show (y 1).val / 128 = 0 by omega]; rfl

/-! ## The scratch -/

theorem off2_eq : ∀ i : grid0.Coords, k0_off2 i = ![(i 0).val % 2, (i 1).val, 0, 0] := by decide +kernel
theorem off3_eq : ∀ i : grid0.Coords, k0_off3 i = ![(i 0).val % 2, (i 1).val, 0, 128] := by decide +kernel
theorem off4_eq : ∀ i : grid0.Coords, k0_off4 i = ![(i 0).val % 2, (i 1).val, 0, 256] := by decide +kernel
theorem off5_eq : ∀ i : grid0.Coords, k0_off5 i = ![(i 0).val % 2, (i 1).val, 0, 384] := by decide +kernel

variable {sp : Space} (u : View sig .tc sp S2x16x1024x512 .bf16) (d : u.ty.Contents (Elt F)) (x : Vec F S1024x512 .bf16) (h : Vec F S256x256 .bf16)
  (i : grid0.Coords) (h1 : k0_cond1 i = 1#1)

/-- The chunk that the preparation fills. -/
theorem chunk_fill (hn : (i 1).val < 16) : chunk (u.read (Elt F) (u.writes (Elt F) d (xaPieces x h i h1))) ((i 0).val) ((i 1).val) = xaBlk x h := by
  funext y
  have hy3 : (y 3).val < 512 := (y 3).isLt
  have hy0 : (y 0).val < 1 := (y 0).isLt
  have hy1 : (y 1).val < 1 := (y 1).isLt
  have hm : (i 1).val % 16 = (i 1).val := Nat.mod_eq_of_lt hn
  unfold chunk xaPieces
  by_cases h3 : 384 ≤ (y 3).val
  · refine (read_xgroup_hit u d _ _ _ _ (off5_eq i) _ _ _ _ rfl hm h3 (by show (y 3).val < _; omega) (by decide)).trans ?_
    unfold xaBlk
    rw [show (y 3).val / 128 = 3 by omega]; rfl
  refine (read_xgroup_miss u d _ _ _ _ (off5_eq i) _ _ _ _ (.inr (.inr (by show (y 3).val < _; omega)))).trans ?_
  by_cases h2 : 256 ≤ (y 3).val
  · refine (read_xgroup_hit u d _ _ _ _ (off4_eq i) _ _ _ _ rfl hm h2 (by show (y 3).val < _; omega) (by decide)).trans ?_
    unfold xaBlk
    rw [show (y 3).val / 128 = 2 by omega]; rfl
  refine (read_xgroup_miss u d _ _ _ _ (off4_eq i) _ _ _ _ (.inr (.inr (by show (y 3).val < _; omega)))).trans ?_
  by_cases h1 : 128 ≤ (y 3).val
  · refine (read_xgroup_hit u d _ _ _ _ (off3_eq i) _ _ _ _ rfl hm h1 (by show (y 3).val < _; omega) (by decide)).trans ?_
    unfold xaBlk
    rw [show (y 3).val / 128 = 1 by omega]; rfl
  refine (read_xgroup_miss u d _ _ _ _ (off3_eq i) _ _ _ _ (.inr (.inr (by show (y 3).val < _; omega)))).trans ?_
  refine (read_xgroup_hit u d _ _ _ _ (off2_eq i) _ _ _ _ rfl hm (by show 0 ≤ (y 3).val; omega) (by show (y 3).val < _; omega) (by decide)).trans ?_
  unfold xaBlk
  rw [show (y 3).val / 128 = 0 by omega]; rfl

/-- Every other chunk is kept. -/
theorem chunk_keep (s k : ℕ) (hne : s % 2 ≠ (i 0).val % 2 ∨ k % 16 ≠ (i 1).val) :
    chunk (u.read (Elt F) (u.writes (Elt F) d (xaPieces x h i h1))) s k = chunk (u.read (Elt F) d) s k := by
  funext y
  have hm : ∀ o : ℕ, s % 2 ≠ (i 0).val % 2 ∨ k % 16 ≠ (i 1).val ∨ (y 3).val < o := fun o => hne.elim .inl fun h => .inr (.inl h)
  unfold chunk xaPieces
  refine (read_xgroup_miss u d _ _ _ _ (off5_eq i) _ _ _ _ (hm _)).trans ?_
  refine (read_xgroup_miss u d _ _ _ _ (off4_eq i) _ _ _ _ (hm _)).trans ?_
  refine (read_xgroup_miss u d _ _ _ _ (off3_eq i) _ _ _ _ (hm _)).trans ?_
  exact read_xgroup_miss u d _ _ _ _ (off2_eq i) _ _ _ _ (hm _)

end Cert.KernelIdeal.Hand

end
-- ==== Proof.Schedule.lean ====
module

public import proofs.«01_k».proof.Proof.Gen.KernelIdeal.Frame
public import Idealize.ShloMosaic.Lib.Pipeline.ValueKit

/-!
  When the windows move: point `t` of the grid is row block `t / 29` and column block `t % 29`; where a window is idle, and
  where it is written back.
-/

@[expose] public section

set_option maxRecDepth 16384

noncomputable section

namespace Cert.KernelIdeal.Hand

open Cert.KernelIdeal Cert.KernelIdeal.Gen
open Idealize.ShloMosaic

/-- The point of number `q`, counted around the grid. -/
def point (q : ℕ) : Fin cfg0.N := ⟨q % 493, Nat.mod_lt _ (by decide)⟩

theorem point_val (t : Fin cfg0.N) : point t.val = t := Fin.ext (Nat.mod_eq_of_lt t.isLt)

theorem coords_eq : ∀ t : Fin grid0.N, (grid0.coords t 0).val = t.val / 29 ∧ (grid0.coords t 1).val = t.val % 29 := by decide +kernel
theorem coords_zero (t : Fin cfg0.N) : (cfg0.grid.coords t 0).val = t.val / 29 := (coords_eq t).1
theorem coords_one (t : Fin cfg0.N) : (cfg0.grid.coords t 1).val = t.val % 29 := (coords_eq t).2

theorem cond1_point : ∀ t : Fin grid0.N, k0_cond1 (grid0.coords t) = 1#1 ↔ t.val / 29 < 16 ∧ t.val % 29 < 16 := by decide +kernel
theorem cond2_point : ∀ t : Fin grid0.N, k0_cond2 (grid0.coords t) = 1#1 ↔ 29 ≤ t.val := by decide +kernel

theorem idle4_iff : ∀ t : Fin grid0.N, idle0 4 (grid0.coords t) = true ↔ t.val < 29 := by decide +kernel
theorem idle5_iff : ∀ t : Fin grid0.N, idle0 5 (grid0.coords t) = true ↔ ¬ (t.val / 29 < 16 ∧ t.val % 29 < 16) := by decide +kernel
theorem idle6_iff : ∀ t : Fin grid0.N, idle0 6 (grid0.coords t) = true ↔ ¬ (t.val / 29 < 16 ∧ t.val % 29 < 16) := by decide +kernel

theorem flush4_iff : ∀ t : Fin grid0.N, win0_4.flush t = true ↔ 29 ≤ t.val := by decide +kernel
theorem flush5_iff : ∀ t : Fin grid0.N, win0_5.flush t = true ↔ (t.val / 29 < 16 ∧ t.val % 29 < 15) ∨ (t.val / 29 < 15 ∧ t.val % 29 = 28) ∨ t.val = 492 := by decide +kernel
theorem flush6_iff : ∀ t : Fin grid0.N, win0_6.flush t = true ↔ (t.val / 29 < 15 ∧ t.val % 29 = 28) ∨ t.val = 492 := by decide +kernel

/-! ## The windows' block indices -/

theorem index0_eq : ∀ t : Fin grid0.N, win0_0.index t = ![min (t.val / 29) 15, if t.val / 29 < 16 then min (t.val % 29) 15 else 15] := by decide +kernel
theorem index1_eq : ∀ t : Fin grid0.N, win0_1.index t = ![0, 0] := by decide +kernel
theorem index2_eq : ∀ t : Fin grid0.N, win0_2.index t = ![0, if 29 ≤ t.val then t.val % 29 else 0] := by decide +kernel
theorem index3_eq : ∀ t : Fin grid0.N, win0_3.index t = ![0, if 29 ≤ t.val then t.val % 29 else 0] := by decide +kernel
theorem index4_eq : ∀ t : Fin grid0.N, win0_4.index t = ![t.val / 29 - 1, if 29 ≤ t.val then t.val % 29 else 0] := by decide +kernel
theorem index5_eq : ∀ t : Fin grid0.N, win0_5.index t = ![min (t.val / 29) 15, if t.val / 29 < 16 then min (t.val % 29) 15 else 15] := by decide +kernel
theorem index6_eq : ∀ t : Fin grid0.N, win0_6.index t = ![min (t.val / 29) 15, 0] := by decide +kernel

/-! ## The blocks of the arguments -/

variable {F : FTy → Type} [FloatOps F]

/-- Block `(p, q)` of the tokens. -/
def blkX (A : S16384x8192.Idx → Elt F .bf16) (p q : ℕ) : Vec F S1024x512 .bf16 := fun y =>
  A fun a => match a with
    | ⟨0, _⟩ => ⟨(1024 * p + (y 0).val) % 16384, Nat.mod_lt _ (by decide)⟩
    | ⟨1, _⟩ => ⟨(512 * q + (y 1).val) % 8192, Nat.mod_lt _ (by decide)⟩

/-- Column block `q` of the weights. -/
def blkW (A : S8192x14848.Idx → Elt F .fp8e4m3) (q : ℕ) : Vec F S8192x512 .fp8e4m3 := fun y =>
  A fun a => match a with
    | ⟨0, _⟩ => ⟨(y 0).val, (y 0).isLt⟩
    | ⟨1, _⟩ => ⟨(512 * q + (y 1).val) % 14848, Nat.mod_lt _ (by decide)⟩

/-- Column block `q` of the weights' scales. -/
def blkS (A : S1x14848.Idx → Elt F .f32) (q : ℕ) : Vec F S1x512 .f32 := fun y =>
  A fun a => match a with
    | ⟨0, _⟩ => ⟨(y 0).val, (y 0).isLt⟩
    | ⟨1, _⟩ => ⟨(512 * q + (y 1).val) % 14848, Nat.mod_lt _ (by decide)⟩

variable (m : (ℓ : Loc nD τ sig) → Buf (Elt F) ℓ) (c : Dev nD)

theorem iblk0_eq (t : Fin cfg0.N) :
    (iblk m c 0 t : Vec F S1024x512 .bf16)
      = blkX (V m c main_v16) (min (t.val / 29) 15) (if t.val / 29 < 16 then min (t.val % 29) 15 else 15) := by
  funext y
  have h0 : (y 0).val < 1024 := (y 0).isLt
  have h1 : (y 1).val < 512 := (y 1).isLt
  unfold blkX
  show V m c main_v16 ((win0_0.blk t).view.emb y) = _
  refine congrArg _ (funext fun a => Fin.ext ?_)
  match a with
  | ⟨0, _⟩ =>
    show (((win0_0.blk t).view.emb y) 0).val = (1024 * min (t.val / 29) 15 + (y 0).val) % 16384
    blk_simp [index0_eq]
    simp only [Matrix.cons_val_zero]
    omega
  | ⟨1, _⟩ =>
    show (((win0_0.blk t).view.emb y) 1).val = (512 * (if t.val / 29 < 16 then min (t.val % 29) 15 else 15) + (y 1).val) % 8192
    blk_simp [index0_eq]
    simp only [Matrix.cons_val_one]
    split <;> omega

theorem iblk1_eq (t : Fin cfg0.N) : (iblk m c 1 t : Vec F S256x256 .bf16) = V m c main_v15 := by
  funext y
  show V m c main_v15 ((win0_1.blk t).view.emb y) = _
  refine congrArg _ (funext fun a => Fin.ext ?_)
  match a with
  | ⟨0, _⟩ =>
    show (((win0_1.blk t).view.emb y) 0).val = (y 0).val
    blk_simp [index1_eq]
  | ⟨1, _⟩ =>
    show (((win0_1.blk t).view.emb y) 1).val = (y 1).val
    blk_simp [index1_eq]

theorem iblk2_eq (t : Fin cfg0.N) (ht : 29 ≤ t.val) : (iblk m c 2 t : Vec F S8192x512 .fp8e4m3) = blkW (V m c main_arg1) (t.val % 29) := by
  funext y
  have h1 : (y 1).val < 512 := (y 1).isLt
  unfold blkW
  show V m c main_arg1 ((win0_2.blk t).view.emb y) = _
  refine congrArg _ (funext fun a => Fin.ext ?_)
  match a with
  | ⟨0, _⟩ =>
    show (((win0_2.blk t).view.emb y) 0).val = (y 0).val
    blk_simp [index2_eq]
  | ⟨1, _⟩ =>
    show (((win0_2.blk t).view.emb y) 1).val = (512 * (t.val % 29) + (y 1).val) % 14848
    blk_simp [index2_eq]
    simp only [Matrix.cons_val_one, if_pos ht]
    omega

theorem iblk3_eq (t : Fin cfg0.N) (ht : 29 ≤ t.val) : (iblk m c 3 t : Vec F S1x512 .f32) = blkS (V m c main_v17) (t.val % 29) := by
  funext y
  have h1 : (y 1).val < 512 := (y 1).isLt
  unfold blkS
  show V m c main_v17 ((win0_3.blk t).view.emb y) = _
  refine congrArg _ (funext fun a => Fin.ext ?_)
  match a with
  | ⟨0, _⟩ =>
    show (((win0_3.blk t).view.emb y) 0).val = (y 0).val
    blk_simp [index3_eq]
  | ⟨1, _⟩ =>
    show (((win0_3.blk t).view.emb y) 1).val = (512 * (t.val % 29) + (y 1).val) % 14848
    blk_simp [index3_eq]
    simp only [Matrix.cons_val_one, if_pos ht]
    omega

end Cert.KernelIdeal.Hand

end
-- ==== Proof.IdealPoint.lean ====
module

public import proofs.«01_k».proof.Proof.IdealBody
public import proofs.«01_k».proof.Proof.Pieces
public import proofs.«01_k».proof.Proof.Schedule

/-!
  The whole body at one grid point: what each buffer holds after it.
-/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Body

variable (c : Dev nD) (i : grid0.Coords)
    (arg2 : Memref sig .tc .vmem S1024x512 .bf16) (harg2 : arg2.IsWhole) (arg3 : Memref sig .tc .vmem S256x256 .bf16) (harg3 : arg3.IsWhole)
    (arg4 : Memref sig .tc .vmem S8192x512 .fp8e4m3) (harg4 : arg4.IsWhole) (arg5 : Memref sig .tc .vmem S1x512 .f32) (harg5 : arg5.IsWhole)
    (arg6 : Memref sig .tc .vmem S1024x512 .bf16) (harg6 : arg6.IsWhole) (arg7 : Memref sig .tc .vmem S1024x512 .fp8e4m3) (harg7 : arg7.IsWhole)
    (arg8 : Memref sig .tc .vmem S1024x64 .f32) (harg8 : arg8.IsWhole) (arg9 : Memref sig .tc .vmem S2x16x1024x512 .bf16) (harg9 : arg9.IsWhole)

/-! ## The buffers after one point -/

variable (x : Vec F S1024x512 .bf16) (h : Vec F S256x256 .bf16) (w : Vec F S8192x512 .fp8e4m3) (s : Vec F S1x512 .f32)

/-- The buffer of the codes. -/
def left7 (f7 : Buf (Elt F) (arg7.view.loc (c : Thread nD τ))) : Buf (Elt F) (arg7.view.loc (c : Thread nD τ)) :=
  if k0_cond1 i = 1#1 then arg7.view.writes (Elt F) f7 (codesPieces x h) else f7

/-- The buffer of the scales. -/
def left8 (f8 : Buf (Elt F) (arg8.view.loc (c : Thread nD τ))) : Buf (Elt F) (arg8.view.loc (c : Thread nD τ)) :=
  if k0_cond1 i = 1#1 then arg8.view.writes (Elt F) f8 [⟨Rect.unit (s := S1024x64) ![0, 0] S1024x64.size inb_S1024x64_S1024x64_0_0,
          scaleBlk x h (BitVec.ofNat 32 (i 1).val) (arg8.view.read (Elt F) f8)⟩] else f8

/-- The scratch. -/
def left9 (f9 : Buf (Elt F) (arg9.view.loc (c : Thread nD τ))) : Buf (Elt F) (arg9.view.loc (c : Thread nD τ)) :=
  if h1 : k0_cond1 i = 1#1 then arg9.view.writes (Elt F) f9 (xaPieces x h i h1) else f9

/-- The buffer of the results, from the scratch `X`. -/
def left6 (X : Vec F S2x16x1024x512 .bf16) (f6 : Buf (Elt F) (arg6.view.loc (c : Thread nD τ))) : Buf (Elt F) (arg6.view.loc (c : Thread nD τ)) :=
  if k0_cond2 i = 1#1 then arg6.view.writes (Elt F) f6 [⟨Rect.unit (s := S1024x512) ![0, 0] S1024x512.size inb_S1024x512_S1024x512_0_0,
          yBlk (chunk X ((i 0).val + 1)) w s⟩] else f6

theorem kernelRun
    (f2 : Buf (Elt F) (arg2.view.loc (c : Thread nD τ))) (f3 : Buf (Elt F) (arg3.view.loc (c : Thread nD τ)))
    (f4 : Buf (Elt F) (arg4.view.loc (c : Thread nD τ))) (f5 : Buf (Elt F) (arg5.view.loc (c : Thread nD τ)))
    (f6 : Buf (Elt F) (arg6.view.loc (c : Thread nD τ))) (f7 : Buf (Elt F) (arg7.view.loc (c : Thread nD τ)))
    (f8 : Buf (Elt F) (arg8.view.loc (c : Thread nD τ))) (f9 : Buf (Elt F) (arg9.view.loc (c : Thread nD τ)))
    (e2 : arg2.view.read (Elt F) f2 = x) (e3 : arg3.view.read (Elt F) f3 = h) (e4 : arg4.view.read (Elt F) f4 = w)
    (e5 : arg5.view.read (Elt F) f5 = s) (K : PUnit → sProp 𝕄) :
    iprop(pt c arg2 f2 ∗ pt c arg3 f3 ∗ pt c arg4 f4 ∗ pt c arg5 f5 ∗ pt c arg6 f6 ∗ pt c arg7 f7 ∗ pt c arg8 f8 ∗ pt c arg9 f9
        ∗ (iprop(pt c arg2 f2 ∗ pt c arg3 f3 ∗ pt c arg4 f4 ∗ pt c arg5 f5
            ∗ pt c arg6 (left6 c i arg6 w s (arg9.view.read (Elt F) (left9 c i arg9 x h f9)) f6)
            ∗ pt c arg7 (left7 c i arg7 x h f7) ∗ pt c arg8 (left8 c i arg8 x h f8) ∗ pt c arg9 (left9 c i arg9 x h f9)) -∗ K ⟨⟩))
      ⊢ wp frame (wpE (defs₀ (F := F)) Variants.none c none) Set.univ
          (cc0_quarot_linear i arg2 harg2 arg3 harg3 arg4 harg4 arg5 harg5 arg6 harg6 arg7 harg7 arg8 harg8 arg9 harg9) K := by
  subst e2 e3 e4 e5
  rw [body_eq, wp_bind]
  iintro ⟨H2, H3, H4, H5, H6, H7, H8, H9, Hk⟩
  by_cases h1 : k0_cond1 i = 1#1
  · rw [dif_pos h1]
    iapply ((prepRun c i arg2 harg2 arg3 harg3 arg4 harg4 arg5 harg5 arg6 harg6 arg7 harg7 arg8 harg8 arg9 harg9 h1 f2 f3 f8).2 f9 f7 _)
    rw [prepRun_pieces]
    isplitl [H2]; · iexact H2
    isplitl [H3]; · iexact H3
    isplitl [H7]; · iexact H7
    isplitl [H8]; · iexact H8
    isplitl [H9]; · iexact H9
    iintro ⟨H2, H3, H7, H8, H9⟩
    rw [wp_bind]
    by_cases h2 : k0_cond2 i = 1#1
    · rw [dif_pos h2]
      iapply ((mainRun c i arg2 harg2 arg3 harg3 arg4 harg4 arg5 harg5 arg6 harg6 arg7 harg7 arg8 harg8 arg9 harg9 h2 f4 f5 (left9 c i arg9 (arg2.view.read (Elt F) f2) (arg3.view.read (Elt F) f3) f9)).2 f6 _)
      rw [mainRun_pieces]
      simp only [left6, left7, left8, left9, dif_pos h1, if_pos h1, if_pos h2]
      isplitl [H4]; · iexact H4
      isplitl [H5]; · iexact H5
      isplitl [H6]; · iexact H6
      isplitl [H9]; · iexact H9
      iintro ⟨H4, H5, H6, H9⟩
      sl_step
      iapply Hk
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    · rw [dif_neg h2]
      simp only [left6, left7, left8, left9, dif_pos h1, if_pos h1, if_neg h2]
      sl_step
      sl_step
      iapply Hk
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
  · rw [dif_neg h1]
    sl_step
    rw [wp_bind]
    by_cases h2 : k0_cond2 i = 1#1
    · rw [dif_pos h2]
      iapply ((mainRun c i arg2 harg2 arg3 harg3 arg4 harg4 arg5 harg5 arg6 harg6 arg7 harg7 arg8 harg8 arg9 harg9 h2 f4 f5 (left9 c i arg9 (arg2.view.read (Elt F) f2) (arg3.view.read (Elt F) f3) f9)).2 f6 _)
      rw [mainRun_pieces]
      simp only [left6, left7, left8, left9, dif_neg h1, if_neg h1, if_pos h2]
      isplitl [H4]; · iexact H4
      isplitl [H5]; · iexact H5
      isplitl [H6]; · iexact H6
      isplitl [H9]; · iexact H9
      iintro ⟨H4, H5, H6, H9⟩
      sl_step
      iapply Hk
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    · rw [dif_neg h2]
      simp only [left6, left7, left8, left9, dif_neg h1, if_neg h1, if_neg h2]
      sl_step
      sl_step
      iapply Hk
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9

end Body

end Cert.KernelIdeal.Hand

end
-- ==== Proof.IdealData.lean ====
module

public import proofs.«01_k».proof.Proof.IdealPoint

/-!
  The run of the kernel: what every window holds after every grid point, and the invariant that carries the scratch from
  point to point. Before point `29 m + n` the scratch holds the column blocks below `n` of row block `m` and all column
  blocks of row block `m - 1`.
-/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the windows hold -/

/-- The scaled codes of the column block that point `q` prepares. -/
def xaAt (c : Dev nD) (q : ℕ) : Vec F S1x1x1024x512 .bf16 := xaBlk (iblk m c 0 (point q)) (iblk m c 1 (point q))

/-- The block of scales after point `q`, from the block before it. -/
def scaleAcc (c : Dev nD) (q : ℕ) (s : Vec F S1024x64 .f32) : Vec F S1024x64 .f32 :=
  if k0_cond1 (grid0.coords (point q)) = 1#1 then
    scaleBlk (iblk m c 0 (point q)) (iblk m c 1 (point q)) (BitVec.ofNat 32 (grid0.coords (point q) 1).val) s
  else s

/-- The block of scales after point `q`. -/
def scaleAt (c : Dev nD) : ℕ → Vec F S1024x64 .f32
  | 0 => scaleAcc m c 0 (constant S1024x64 .f32 0x00000000#32)
  | q + 1 => scaleAcc m c (q + 1) (scaleAt c q)

/-- The block of results of point `t`. -/
def yAt (c : Dev nD) (t : Fin cfg0.N) : Vec F S1024x512 .bf16 :=
  yBlk (fun k => xaAt m c (29 * (t.val / 29 - 1) + k)) (iblk m c 2 t) (iblk m c 3 t)

/-- The scratch before point `q`: the column blocks of row block `q / 29` below `q % 29`, and those of the row block before. -/
def Inv (c : Dev nD) (q : ℕ) (X : Vec F S2x16x1024x512 .bf16) : Prop :=
  ∀ r k, k < 16 → r < 16 → (r = q / 29 ∧ k < q % 29) ∨ r + 1 = q / 29 → chunk X r k = xaAt m c (29 * r + k)

/-- The proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => yAt m c t
    | ⟨5, _⟩ => codesBlk (iblk m c 0 t) (iblk m c 1 t)
    | ⟨6, _⟩ => scaleAt m c t.val
  Φ t := iprop((∃ f, ⌜Inv m c t.val ((Memref.whole cc0_scratch0).view.read (Elt F) f)⌝ ∗ pt c (Memref.whole cc0_scratch0) f) ∗ ∃ r, prngReg c r)
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem before_0 (c : Dev nD) (t : Fin cfg0.N) (d) : (dats m 0 c).before 0 t d = iblk m c 0 t :=
  before0_0_of m (dats m 0 c) (A_eq m c 0) (after_0 m c) t d
theorem after_1 (c : Dev nD) (t : Fin cfg0.N) : (dats m 0 c).after 1 t = iblk m c 1 t := by dsimp only [dats]
theorem before_1 (c : Dev nD) (t : Fin cfg0.N) (d) : (dats m 0 c).before 1 t d = iblk m c 1 t :=
  before0_1_of m (dats m 0 c) (A_eq m c 1) (after_1 m c) t d
theorem after_2 (c : Dev nD) (t : Fin cfg0.N) : (dats m 0 c).after 2 t = iblk m c 2 t := by dsimp only [dats]
theorem before_2 (c : Dev nD) (t : Fin cfg0.N) (d) : (dats m 0 c).before 2 t d = iblk m c 2 t :=
  before0_2_of m (dats m 0 c) (A_eq m c 2) (after_2 m c) t d
theorem after_3 (c : Dev nD) (t : Fin cfg0.N) : (dats m 0 c).after 3 t = iblk m c 3 t := by dsimp only [dats]
theorem before_3 (c : Dev nD) (t : Fin cfg0.N) (d) : (dats m 0 c).before 3 t d = iblk m c 3 t :=
  before0_3_of m (dats m 0 c) (A_eq m c 3) (after_3 m c) t d

theorem after_4 (c : Dev nD) (t : Fin cfg0.N) : (dats m 0 c).after 4 t = yAt m c t := by dsimp only [dats]
theorem after_5 (c : Dev nD) (t : Fin cfg0.N) : (dats m 0 c).after 5 t = codesBlk (iblk m c 0 t) (iblk m c 1 t) := by dsimp only [dats]
theorem after_6 (c : Dev nD) (t : Fin cfg0.N) : (dats m 0 c).after 6 t = scaleAt m c t.val := by dsimp only [dats]

/-! ## Points that write nothing -/

/-- The point before. -/
def prev (t : Fin cfg0.N) : Fin cfg0.N := ⟨t.val - 1, Nat.lt_of_le_of_lt (Nat.sub_le _ _) t.isLt⟩

/-- A window that holds after every idle point what it held after the point before is found there as it is left. -/
theorem before_of_idle (c : Dev nD) (w : Fin cfg0.W) (hf : ∀ t, (cfg0.win w).fetch t = false)
    (hk : ∀ t d, (dats m 0 c).kept w t d = (dats m 0 c).after w t)
    (hi : ∀ t, cfg0.idle w (cfg0.grid.coords t) = true →
      t.val ≠ 0 ∧ (cfg0.win w).flush (prev t) = false ∧ (dats m 0 c).after w t = (dats m 0 c).after w (prev t)) (d) :
    ∀ n (t : Fin cfg0.N), t.val = n → cfg0.idle w (cfg0.grid.coords t) = true → (dats m 0 c).before w t d = (dats m 0 c).after w t := by
  intro n
  induction n with
  | zero => exact fun t ht h => absurd ht (hi t h).1
  | succ n ih =>
    intro t ht h
    obtain ⟨h0, h1, h2⟩ := hi t h
    rw [Dat.before_of_pos _ w t h0 (hf t), h2]
    change (if (cfg0.win w).flush (prev t) then d else (dats m 0 c).left w (prev t) d) = _
    rw [h1, if_neg Bool.false_ne_true]
    unfold Dat.left
    cases e : cfg0.idle w (cfg0.grid.coords (prev t)) with
    | true => exact ih (prev t) (by show t.val - 1 = n; omega) e
    | false => exact hk _ _

/-- Such a window is found as the point before left it, unless that point wrote it back. -/
theorem before_of_kept (c : Dev nD) (w : Fin cfg0.W) (hf : ∀ t, (cfg0.win w).fetch t = false)
    (hk : ∀ t d, (dats m 0 c).kept w t d = (dats m 0 c).after w t)
    (hi : ∀ t, cfg0.idle w (cfg0.grid.coords t) = true →
      t.val ≠ 0 ∧ (cfg0.win w).flush (prev t) = false ∧ (dats m 0 c).after w t = (dats m 0 c).after w (prev t)) (d)
    (t : Fin cfg0.N) (h0 : t.val ≠ 0) (h1 : (cfg0.win w).flush (prev t) = false) :
    (dats m 0 c).before w t d = (dats m 0 c).after w (prev t) := by
  rw [Dat.before_of_pos _ w t h0 (hf t)]
  change (if (cfg0.win w).flush (prev t) then d else (dats m 0 c).left w (prev t) d) = _
  rw [h1, if_neg Bool.false_ne_true]
  unfold Dat.left
  cases e : cfg0.idle w (cfg0.grid.coords (prev t)) with
  | true => exact before_of_idle m c w hf hk hi d _ (prev t) rfl e
  | false => exact hk _ _

theorem idle5 (c : Dev nD) (t : Fin cfg0.N) (h : cfg0.idle 5 (cfg0.grid.coords t) = true) :
    t.val ≠ 0 ∧ (cfg0.win 5).flush (prev t) = false ∧ (dats m 0 c).after 5 t = (dats m 0 c).after 5 (prev t) := by
  have ht : t.val < 493 := t.isLt
  have h' := (idle5_iff t).mp h
  refine ⟨by omega, ?_, ?_⟩
  · rw [Bool.eq_false_iff]
    intro hh
    have := (flush5_iff (prev t)).mp hh
    have e : (prev t).val = t.val - 1 := rfl
    rw [e] at this
    omega
  · rw [after_5, after_5, iblk0_eq, iblk0_eq, iblk1_eq, iblk1_eq]
    have e : (prev t).val = t.val - 1 := rfl
    rw [e, show min (t.val / 29) 15 = min ((t.val - 1) / 29) 15 by omega,
      show (if t.val / 29 < 16 then min (t.val % 29) 15 else 15) = (if (t.val - 1) / 29 < 16 then min ((t.val - 1) % 29) 15 else 15) by
        split <;> split <;> omega]

theorem scaleAt_step (c : Dev nD) (t : Fin cfg0.N) (h0 : t.val ≠ 0) : scaleAt m c t.val = scaleAcc m c t.val (scaleAt m c (t.val - 1)) := by
  obtain ⟨n, hn⟩ := t
  cases n with
  | zero => exact absurd rfl h0
  | succ n => rfl

theorem idle6 (c : Dev nD) (t : Fin cfg0.N) (h : cfg0.idle 6 (cfg0.grid.coords t) = true) :
    t.val ≠ 0 ∧ (cfg0.win 6).flush (prev t) = false ∧ (dats m 0 c).after 6 t = (dats m 0 c).after 6 (prev t) := by
  have ht : t.val < 493 := t.isLt
  have h' := (idle6_iff t).mp h
  have e : (prev t).val = t.val - 1 := rfl
  have h0 : t.val ≠ 0 := by omega
  refine ⟨h0, ?_, ?_⟩
  · rw [Bool.eq_false_iff]
    intro hh
    have := (flush6_iff (prev t)).mp hh
    rw [e] at this
    omega
  · rw [after_6, after_6, scaleAt_step m c t h0, e]
    unfold scaleAcc
    rw [point_val, if_neg (fun hc => h' ((cond1_point t).mp hc))]

theorem before_5 (c : Dev nD) (t : Fin cfg0.N) (d) (h : cfg0.idle 5 (cfg0.grid.coords t) = true) :
    (dats m 0 c).before 5 t d = (dats m 0 c).after 5 t :=
  before_of_idle m c 5 (fun _ => rfl) (fun _ _ => rfl) (idle5 m c) d _ t rfl h

theorem before_6 (c : Dev nD) (t : Fin cfg0.N) (d) (h : cfg0.idle 6 (cfg0.grid.coords t) = true) :
    (dats m 0 c).before 6 t d = (dats m 0 c).after 6 t :=
  before_of_idle m c 6 (fun _ => rfl) (fun _ _ => rfl) (idle6 m c) d _ t rfl h

/-- The first column block of a row block starts the block of scales anew. -/
theorem scaleBlk_reset (x : Vec F S1024x512 .bf16) (h : Vec F S256x256 .bf16) (s s' : Vec F S1024x64 .f32) :
    scaleBlk x h 0#32 s = scaleBlk x h 0#32 s' := rfl

/-- Where the scales are computed, the block found leads to the block left. -/
theorem scale_found (c : Dev nD) (t : Fin cfg0.N) (d) (h : k0_cond1 (grid0.coords t) = 1#1) :
    scaleBlk (iblk m c 0 t) (iblk m c 1 t) (BitVec.ofNat 32 (grid0.coords t 1).val) ((dats m 0 c).before 6 t d) = (dats m 0 c).after 6 t := by
  have ht : t.val < 493 := t.isLt
  have h' := (cond1_point t).mp h
  have e1 := (coords_eq t).2
  rw [after_6]
  by_cases hn : t.val % 29 = 0
  · have es : ∃ s, scaleAt m c t.val = scaleAcc m c t.val s := by
      obtain ⟨n, hn⟩ := t
      cases n with
      | zero => exact ⟨_, rfl⟩
      | succ n => exact ⟨_, rfl⟩
    obtain ⟨s, es⟩ := es
    rw [es]
    unfold scaleAcc
    rw [point_val, if_pos h, e1, hn]
    exact scaleBlk_reset _ _ _ _
  · have h0 : t.val ≠ 0 := by omega
    have hfl : (cfg0.win 6).flush (prev t) = false := by
      rw [Bool.eq_false_iff]
      intro hh
      have := (flush6_iff (prev t)).mp hh
      have e : (prev t).val = t.val - 1 := rfl
      rw [e] at this
      omega
    rw [before_of_kept m c 6 (fun _ => rfl) (fun _ _ => rfl) (idle6 m c) d t h0 hfl, after_6, scaleAt_step m c t h0]
    unfold scaleAcc
    rw [point_val, if_pos h]
    rfl

end Cert.KernelIdeal.Hand

end
-- ==== Proof.IdealRun.lean ====
module

public import proofs.«01_k».proof.Proof.IdealData

/-!
  The run of the kernel with its results named: at every grid point the body leaves the windows as the proof data say and
  carries the invariant of the scratch on.
-/
@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The scratch -/

/-- A chunk depends on the slot's parity only. -/
theorem chunk_slot (X : Vec F S2x16x1024x512 .bf16) (s s' k : ℕ) (h : s % 2 = s' % 2) : chunk X s k = chunk X s' k := by
  unfold chunk
  simp only [h]

theorem inv_zero (c : Dev nD) (X : Vec F S2x16x1024x512 .bf16) : Inv m c 0 X := fun r k _ _ h => by omega

theorem inv_step (c : Dev nD) (t : Fin cfg0.N) (f : Buf (Elt F) ((Memref.whole cc0_scratch0).view.loc (c : Thread nD τ)))
    (h : Inv m c t.val ((Memref.whole cc0_scratch0).view.read (Elt F) f)) :
    Inv m c (t.val + 1) ((Memref.whole cc0_scratch0).view.read (Elt F)
      (left9 c (grid0.coords t) (Memref.whole cc0_scratch0) (iblk m c 0 t) (iblk m c 1 t) f)) := by
  have ht : t.val < 493 := t.isLt
  have e0 := (coords_eq t).1
  have e1 := (coords_eq t).2
  intro r k hk hr hc
  unfold left9
  by_cases h1 : k0_cond1 (grid0.coords t) = 1#1
  · rw [dif_pos h1]
    have h1' := (cond1_point t).mp h1
    by_cases hn : r = t.val / 29 ∧ k = t.val % 29
    · have e := chunk_fill (Memref.whole cc0_scratch0).view f (iblk m c 0 t) (iblk m c 1 t) (grid0.coords t) h1 (by rw [e1]; exact h1'.2)
      rw [e0, e1, ← hn.1, ← hn.2] at e
      rw [e, show 29 * r + k = t.val by omega]
      unfold xaAt
      rw [point_val]
    · rw [chunk_keep _ _ _ _ _ _ _ _ (by rw [e0, e1]; omega)]
      exact h r k hk hr (by omega)
  · rw [dif_neg h1]
    have h1' : ¬ (t.val / 29 < 16 ∧ t.val % 29 < 16) := fun hh => h1 ((cond1_point t).mpr hh)
    exact h r k hk hr (by omega)

/-- The chunks that the product reads are those of the row block before, complete. -/
theorem chunks_read (c : Dev nD) (t : Fin cfg0.N) (h2 : 29 ≤ t.val) (f : Buf (Elt F) ((Memref.whole cc0_scratch0).view.loc (c : Thread nD τ)))
    (h : Inv m c t.val ((Memref.whole cc0_scratch0).view.read (Elt F) f)) (k : ℕ) (hk : k < 16) :
    chunk ((Memref.whole cc0_scratch0).view.read (Elt F)
      (left9 c (grid0.coords t) (Memref.whole cc0_scratch0) (iblk m c 0 t) (iblk m c 1 t) f)) ((grid0.coords t 0).val + 1) k
      = xaAt m c (29 * (t.val / 29 - 1) + k) := by
  have ht : t.val < 493 := t.isLt
  have e0 := (coords_eq t).1
  have e : chunk ((Memref.whole cc0_scratch0).view.read (Elt F) f) ((grid0.coords t 0).val + 1) k = xaAt m c (29 * (t.val / 29 - 1) + k) := by
    rw [e0, chunk_slot _ (t.val / 29 + 1) (t.val / 29 - 1) k (by omega)]
    exact h _ k hk (by omega) (.inr (by omega))
  unfold left9
  by_cases h1 : k0_cond1 (grid0.coords t) = 1#1
  · rw [dif_pos h1, chunk_keep _ _ _ _ _ _ _ _ (.inl (by omega))]
    exact e
  · rw [dif_neg h1]
    exact e

theorem accTo_congr (C C' : ℕ → Vec F S1x1x1024x512 .bf16) (W : ℕ → Vec F S512x512 .fp8e4m3) :
    ∀ n, (∀ k ≤ n, C k = C' k) → accTo C W n = accTo C' W n
  | 0, h => by unfold accTo; rw [h 0 le_rfl]
  | n + 1, h => by
    unfold accTo
    rw [accTo_congr C C' W n (fun k hk => h k (Nat.le_succ_of_le hk)), h (n + 1) le_rfl]

theorem yBlk_congr (C C' : ℕ → Vec F S1x1x1024x512 .bf16) (w : Vec F S8192x512 .fp8e4m3) (s : Vec F S1x512 .f32)
    (h : ∀ k < 16, C k = C' k) : yBlk C w s = yBlk C' w s := by
  unfold yBlk
  rw [accTo_congr C C' (wRows w) 15 (fun k hk => h k (by omega))]

/-! ## What a point leaves -/

theorem leaves_of (c : Dev nD) (w : Fin cfg0.W) (t : Fin cfg0.N) (X) (hl : cfg0.loose w = false)
    (h : cfg0.idle w (cfg0.grid.coords t) = false ∨ (cfg0.win w).flush t = true → X = (dats m 0 c).after w t)
    (hb : cfg0.idle w (cfg0.grid.coords t) = true → ∃ d, X = (dats m 0 c).before w t d) : (dats m 0 c).Leaves w t X := by
  unfold Dat.Leaves
  cases hi : cfg0.idle w (cfg0.grid.coords t) with
  | false => simp only [hl]; exact h (.inl hi)
  | true =>
    cases hf : (cfg0.win w).flush t with
    | true => simp only [hl]; exact h (.inr hf)
    | false => exact hb hi

/-- What a point hands back of an output window. -/
def backed (c : Dev nD) (t : Fin cfg0.N) (w : Fin cfg0.W) : sProp 𝕄 :=
  match cfg0.idle w (cfg0.grid.coords t) with
  | true =>
    match (cfg0.win w).flush t with
    | false => iprop(∃ d, owns (c : Thread nD τ) ((cfg0.win w).stage (cfg0.slots t w)) fullShare ((dats m 0 c).before w t d))
    | true => owns (c : Thread nD τ) ((cfg0.win w).stage (cfg0.slots t w)) fullShare ((dats m 0 c).after w t)
  | false => owns (c : Thread nD τ) ((cfg0.win w).stage (cfg0.slots t w)) fullShare ((dats m 0 c).after w t)

theorem owns_leaves (c : Dev nD) (w : Fin cfg0.W) (t : Fin cfg0.N) (X) (hl : cfg0.loose w = false) (h : (dats m 0 c).Leaves w t X) :
    (owns (c : Thread nD τ) ((cfg0.win w).stage (cfg0.slots t w)) fullShare X : sProp 𝕄)
      ⊢ backed m c t w := by
  unfold backed
  unfold Dat.Leaves at h
  cases hi : cfg0.idle w (cfg0.grid.coords t) with
  | false =>
    rw [hi] at h
    simp only [hl] at h
    rw [h]
  | true =>
    rw [hi] at h
    cases hf : (cfg0.win w).flush t with
    | true =>
      rw [hf] at h
      simp only [hl] at h
      rw [h]
    | false =>
      rw [hf] at h
      obtain ⟨d, hd⟩ := h
      rw [hd]
      iintro H
      iexists d
      iexact H

variable (c : Dev nD) (t : Fin cfg0.N)

theorem leaves4 (f9 : Buf (Elt F) ((Memref.whole cc0_scratch0).view.loc (c : Thread nD τ)))
    (h : Inv m c t.val ((Memref.whole cc0_scratch0).view.read (Elt F) f9)) (f6 : Buf (Elt F) ((st0_4 t).view.loc (c : Thread nD τ))) (d)
    (e : (st0_4 t).view.read (Elt F) f6 = (dats m 0 c).before 4 t d) :
    (dats m 0 c).Leaves 4 t ((st0_4 t).view.read (Elt F) (left6 c (grid0.coords t) (st0_4 t) (iblk m c 2 t) (iblk m c 3 t)
      ((Memref.whole cc0_scratch0).view.read (Elt F) (left9 c (grid0.coords t) (Memref.whole cc0_scratch0) (iblk m c 0 t) (iblk m c 1 t) f9)) f6)) := by
  refine leaves_of m c 4 t _ rfl (fun hh => ?_) (fun hh => ?_)
  · have ht : 29 ≤ t.val := by
      rcases hh with hh | hh
      · by_contra hlt
        have := (idle4_iff t).mpr (by omega)
        exact absurd (hh.symm.trans this) (by decide)
      · exact (flush4_iff t).mp hh
    unfold left6
    rw [if_pos ((cond2_point t).mpr ht), after_4]
    refine (read_whole _ _ _ (by decide) _ _).trans ?_
    unfold yAt
    exact yBlk_congr _ _ _ _ fun k hk => chunks_read m c t ht f9 h k hk
  · have ht : t.val < 29 := (idle4_iff t).mp hh
    refine ⟨d, ?_⟩
    unfold left6
    rw [if_neg (fun hc => absurd ((cond2_point t).mp hc) (by omega))]
    exact e

theorem leaves5 (f7 : Buf (Elt F) ((st0_5 t).view.loc (c : Thread nD τ))) (d)
    (e : (st0_5 t).view.read (Elt F) f7 = (dats m 0 c).before 5 t d) :
    (dats m 0 c).Leaves 5 t ((st0_5 t).view.read (Elt F) (left7 c (grid0.coords t) (st0_5 t) (iblk m c 0 t) (iblk m c 1 t) f7)) := by
  have hx : (st0_5 t).view.read (Elt F) (left7 c (grid0.coords t) (st0_5 t) (iblk m c 0 t) (iblk m c 1 t) f7) = (dats m 0 c).after 5 t := by
    unfold left7
    by_cases h1 : k0_cond1 (grid0.coords t) = 1#1
    · rw [if_pos h1, after_5]
      exact read_codes _ _ _ _
    · rw [if_neg h1, e]
      exact before_5 m c t d ((idle5_iff t).mpr fun hh => h1 ((cond1_point t).mpr hh))
  exact leaves_of m c 5 t _ rfl (fun _ => hx) (fun hh => ⟨d, hx.trans (before_5 m c t d hh).symm⟩)

theorem leaves6 (f8 : Buf (Elt F) ((st0_6 t).view.loc (c : Thread nD τ))) (d)
    (e : (st0_6 t).view.read (Elt F) f8 = (dats m 0 c).before 6 t d) :
    (dats m 0 c).Leaves 6 t ((st0_6 t).view.read (Elt F) (left8 c (grid0.coords t) (st0_6 t) (iblk m c 0 t) (iblk m c 1 t) f8)) := by
  have hx : (st0_6 t).view.read (Elt F) (left8 c (grid0.coords t) (st0_6 t) (iblk m c 0 t) (iblk m c 1 t) f8) = (dats m 0 c).after 6 t := by
    unfold left8
    by_cases h1 : k0_cond1 (grid0.coords t) = 1#1
    · rw [if_pos h1]
      refine (read_whole _ _ _ (by decide) _ _).trans ?_
      rw [e]
      exact scale_found m c t d h1
    · rw [if_neg h1, e]
      exact before_6 m c t d ((idle6_iff t).mpr fun hh => h1 ((cond1_point t).mpr hh))
  exact leaves_of m c 6 t _ rfl (fun _ => hx) (fun hh => ⟨d, hx.trans (before_6 m c t d hh).symm⟩)

/-! ## The body at a point -/

/-- What a point is handed. -/
def bodyPre : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- What a point hands back. -/
def bodyPost : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ backed m c t 4 ∗ backed m c t 5 ∗ backed m c t 6)

/-- The invariant before position `p`. -/
def PhiAt (p : ℕ) : sProp 𝕄 :=
  iprop((∃ f, ⌜Inv m c p ((Memref.whole cc0_scratch0).view.read (Elt F) f)⌝ ∗ pt c (Memref.whole cc0_scratch0) f) ∗ ∃ r, prngReg c r)

theorem Phi_castSucc : (dats m 0 c).Φ t.castSucc = PhiAt m c t.val := rfl
theorem Phi_succ : (dats m 0 c).Φ t.succ = PhiAt m c (t.val + 1) := rfl

theorem sound_body :
    bodyPre m c t ⊢ wp frame (wpE (defs₀ (F := F)) Variants.none c none) Set.univ (bodyAt0 t) (fun _ => bodyPost m c t) := by
  unfold bodyPre bodyPost bodyAt0
  rw [Phi_castSucc, Phi_succ]
  unfold Dat.owesAt Pipeline.owesWithin PhiAt
  rw [show (dats m 0 c).owed t.castSucc = 0 from rfl, show (dats m 0 c).owed t.succ = 0 from rfl]
  simp only [before_0, before_1, before_2, before_3, after_0, after_1, after_2, after_3]
  unfold owns
  iintro ⟨⟨⟨%f9, %hI, HS⟩, Hg⟩, ⟨%W, -, HW⟩, ⟨%d0, %f2, %e2, H0⟩, ⟨%d1, %f3, %e3, H1⟩, ⟨%d2, %f4, %e4, H2⟩, ⟨%d3, %f5, %e5, H3⟩,
    ⟨%d4, %f6, %e6, H4⟩, ⟨%d5, %f7, %e7, H5⟩, ⟨%d6, %f8, %e8, H6⟩⟩
  iapply (kernelRun c (cfg0.grid.coords t) (st0_0 t) (hstage0_0 ((cfg0.slots t 0).cast nbuf0_0)) (st0_1 t) (hstage0_1 ((cfg0.slots t 1).cast nbuf0_1))
    (st0_2 t) (hstage0_2 ((cfg0.slots t 2).cast nbuf0_2)) (st0_3 t) (hstage0_3 ((cfg0.slots t 3).cast nbuf0_3))
    (st0_4 t) (hstage0_4 ((cfg0.slots t 4).cast nbuf0_4)) (st0_5 t) (hstage0_5 ((cfg0.slots t 5).cast nbuf0_5))
    (st0_6 t) (hstage0_6 ((cfg0.slots t 6).cast nbuf0_6)) (Memref.whole cc0_scratch0) (Memref.isWhole_whole _)
    (iblk m c 0 t) (iblk m c 1 t) (iblk m c 2 t) (iblk m c 3 t) f2 f3 f4 f5 f6 f7 f8 f9 e2 e3 e4 e5 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS]; · iexact HS
  iintro ⟨H0, H1, H2, H3, H4, H5, H6, HS⟩
  isplitl [HS Hg]
  · isplitl [HS]
    · iexists _; isplitr; · ipureintro; exact inv_step m c t f9 hI
      iexact HS
    iexact Hg
  isplitl [HW]
  · iexists W; isplitr; · ipureintro; exact fun _ _ => Or.inl trivial
    iexact HW
  isplitl [H0]
  · iexists f2; isplitr; · ipureintro; exact e2
    iexact H0
  isplitl [H1]
  · iexists f3; isplitr; · ipureintro; exact e3
    iexact H1
  isplitl [H2]
  · iexists f4; isplitr; · ipureintro; exact e4
    iexact H2
  isplitl [H3]
  · iexists f5; isplitr; · ipureintro; exact e5
    iexact H3
  isplitl [H4]
  · iapply (owns_leaves m c 4 t _ rfl (leaves4 m c t f9 hI f6 d4 e6))
    unfold owns
    iexists _; isplitr; · ipureintro; exact rfl
    iexact H4
  isplitl [H5]
  · iapply (owns_leaves m c 5 t _ rfl (leaves5 m c t f7 d5 e7))
    unfold owns
    iexists _; isplitr; · ipureintro; exact rfl
    iexact H5
  iapply (owns_leaves m c 6 t _ rfl (leaves6 m c t f8 d6 e8))
  unfold owns
  iexists _; isplitr; · ipureintro; exact rfl
  iexact H6

theorem defs₀_row : defs₀ (F := F) .tc cfg0.body (cfg0.bodyArgs t (cfg0.slots t)) = bodyAt0 t := by
  unfold defs₀; rw [Defs.onTc_tc]

theorem body_obligation : BodyObligation (dats (F := F) m 0 c) (defs₀ (F := F)) Variants.none () Set.univ := fun t => by
  rw [bigSep_W0, bigSep_W0, defs₀_row]
  exact triple_restated (sound_body m c t) rfl .rfl fun _ => .rfl

/-- The scratch as the pipeline keeps it. -/
theorem pt_scratch (f : Buf (Elt F) ((c : Thread nD τ).loc cc0_scratch0)) :
    (pt c (Memref.whole cc0_scratch0) f : sProp 𝕄) = iprop(((c : Thread nD τ).loc cc0_scratch0) ↦{fullShare} f) := by
  unfold pt
  rw [show (Memref.whole cc0_scratch0).view.set = Finset.univ from View.set_whole _]

theorem Phi_in : Pipeline.ΦA spec0 c ⊢ PhiAt m c 0 := by
  unfold Pipeline.ΦA PhiAt
  rw [scopedRest0_eq]
  simp only [← pt_scratch]
  iintro ⟨⟨%f, H⟩, Hg⟩
  isplitl [H]
  · iexists f; isplitr; · ipureintro; exact inv_zero m c _
    iexact H
  iexact Hg

theorem Phi_out (p : ℕ) : PhiAt m c p ⊢ Pipeline.ΦA spec0 c := by
  unfold Pipeline.ΦA PhiAt
  rw [scopedRest0_eq]
  simp only [← pt_scratch]
  iintro ⟨⟨%f, -, H⟩, Hg⟩
  isplitl [H]
  · iexists f
    iexact H
  iexact Hg

omit c t in
set_option backward.isDefEq.respectTransparency.types false in
theorem run_main : θ_run defs (onTc (τ := τ) (main (F := F))) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => Phi_in m c) (hout := fun c => Phi_out m c _) (hQ' := fun _ h => h)

omit c t in
/-- The run with its three results named, its arguments unchanged and its semaphores zero again. -/
theorem run : θ_run defs (onTc (τ := τ) (main (F := F))) ⟨m, fun _ => 0, ρ⟩ (fun r => (∀ c : Dev nD,
      r.2.mem ((c.tc : Thread nD τ).loc main_v18_0) = (dats m 0 c).arrAt 4 cfg0.N
      ∧ r.2.mem ((c.tc : Thread nD τ).loc main_v18_1) = (dats m 0 c).arrAt 5 cfg0.N
      ∧ r.2.mem ((c.tc : Thread nD τ).loc main_v18_2) = (dats m 0 c).arrAt 6 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c =>
    ⟨(h.1 c).1 4, (h.1 c).1 5, (h.1 c).1 6,
      ((h.1 c).2 main_arg0 (Pipeline.mem_restRefs_of main_arg0 (by decide) (by decide))).trans (V_main_arg0 m c),
      ((h.1 c).1 2).trans (((dats m 0 c).arrAt_in 2 rfl _).trans ((A_eq m c 2).trans (V_main_arg1 m c))),
      ((h.1 c).2 main_arg2 (Pipeline.mem_restRefs_of main_arg2 (by decide) (by decide))).trans (V_main_arg2 m c)⟩, h.2⟩) (run_main m ρ)

end Cert.KernelIdeal.Hand

end
-- ==== Proof.Search.lean ====
module

public import Idealize.ShloMosaic.Lib.Pointwise
public import Mathlib.Data.EReal.Operations
public import Mathlib.Algebra.Order.Ring.Pow

/-!
  The quantiser's scale of a group, as a function of `a`, the group's largest absolute value over 448.

  The kernel finds the exponent field of `a` by binary search: `floatAt n` is the float whose exponent field is `n` and whose
  fraction is zero, and the search returns the greatest `n` with `floatAt n ≤ a`. The reference takes the least power of
  two above `a`. Both give the same scale and the same inverse while `a` is below `floatAt 253`.
-/

@[expose] public section

set_option maxRecDepth 16384

noncomputable section

namespace Cert.Quantiser

open Idealize.ShloMosaic

/-! ## Floats with a zero fraction -/

/-- The float of exponent field `n` and zero fraction. -/
def floatAt (n : ℕ) : EReal := Ideal.ofBits .f32 (BitVec.ofNat 32 n <<< 23)

theorem neg_bit : ∀ n : Fin 256, ((BitVec.ofNat 32 n.val <<< 23).extractLsb' 31 1 == 1#1) = false := by decide +kernel
theorem field_bits : ∀ n : Fin 256, ((BitVec.ofNat 32 n.val <<< 23).extractLsb' 23 8).toNat = n.val := by decide +kernel
theorem frac_bits : ∀ n : Fin 256, ((BitVec.ofNat 32 n.val <<< 23).extractLsb' 0 23).toNat = 0 := by decide +kernel

theorem floatAt_cases (n : ℕ) (hn : n < 256) :
    floatAt n = if n = 255 then ⊤ else if n = 0 then 0 else (((2 : ℝ) ^ ((n : ℤ) - 127) : ℝ) : EReal) := by
  have e1 := neg_bit ⟨n, hn⟩
  have e2 := field_bits ⟨n, hn⟩
  have e3 := frac_bits ⟨n, hn⟩
  simp only at e1 e2 e3
  unfold floatAt
  show Ideal.ieee 8 23 _ = _
  unfold Ideal.ieee
  simp only [Nat.reduceAdd, e1, e2, e3]
  split_ifs with h1 h2 h3 h4 <;> first | rfl | omega | simp_all
  rw [show ((n : ℤ) - 127 : ℤ) = 23 + ((n : ℤ) - 127 - 23) by ring, zpow_add₀ (by norm_num)]
  norm_num

theorem floatAt_zero : floatAt 0 = 0 := floatAt_cases 0 (by omega)
theorem floatAt_top : floatAt 255 = ⊤ := floatAt_cases 255 (by omega)
theorem floatAt_mid (n : ℕ) (h0 : 0 < n) (h1 : n < 255) : floatAt n = (((2 : ℝ) ^ ((n : ℤ) - 127) : ℝ) : EReal) := by
  rw [floatAt_cases n (by omega), if_neg (by omega), if_neg (by omega)]

theorem floatAt_lt {n k : ℕ} (hk : k < 255) (h : n < k) : floatAt n < floatAt k := by
  rw [floatAt_mid k (by omega) hk]
  rcases Nat.eq_zero_or_pos n with rfl | h0
  · rw [floatAt_zero]
    exact_mod_cast zpow_pos (by norm_num : (0 : ℝ) < 2) _
  · rw [floatAt_mid n h0 (by omega)]
    exact EReal.coe_lt_coe_iff.mpr (zpow_lt_zpow_right₀ (by norm_num : (1 : ℝ) < 2) (by omega))

theorem floatAt_le {n k : ℕ} (hk : k < 255) (h : n ≤ k) : floatAt n ≤ floatAt k := by
  rcases Nat.lt_or_eq_of_le h with h | rfl
  · exact (floatAt_lt hk h).le
  · exact le_rfl

/-! ## The search -/

/-- One step of the search. -/
def step (b : BitVec 32) (a : EReal) (f : BitVec 32) : BitVec 32 :=
  Scalar.select (Ideal.cmp .olt a (Ideal.ofBits .f32 ((f + b) <<< (23#32).toNat))) f (f + b)

/-- The field found. -/
def search (a : EReal) : BitVec 32 :=
  step 1#32 a (step 2#32 a (step 4#32 a (step 8#32 a (step 16#32 a (step 32#32 a (step 64#32 a (step 128#32 a 0#32)))))))

/-- `f` is between the fields that the search has left open: from `f` on, below `f + w`. -/
def Within (a : EReal) (f : BitVec 32) (w : ℕ) : Prop :=
  ∃ n, f = BitVec.ofNat 32 n ∧ n + w ≤ 256 ∧ floatAt n ≤ a ∧ (n + w = 256 ∨ a < floatAt (n + w))

theorem step_within (a : EReal) (f : BitVec 32) (b : ℕ) (h : Within a f (b + b)) (hb : 0 < b) : Within a (step (BitVec.ofNat 32 b) a f) b := by
  obtain ⟨n, rfl, hn, h1, h2⟩ := h
  have e : BitVec.ofNat 32 n + BitVec.ofNat 32 b = BitVec.ofNat 32 (n + b) := (BitVec.ofNat_add n b).symm
  unfold step
  rw [e]
  show Within a (Scalar.select (Ideal.cmp .olt a (floatAt (n + b))) _ _) b
  by_cases hlt : a < floatAt (n + b)
  · rw [show Ideal.cmp .olt a (floatAt (n + b)) = 1#1 by simp [Ideal.cmp, hlt]]
    exact ⟨n, rfl, by omega, h1, .inr hlt⟩
  · rw [show Ideal.cmp .olt a (floatAt (n + b)) = 0#1 by simp [Ideal.cmp, hlt]]
    exact ⟨n + b, rfl, by omega, not_lt.mp hlt, by rw [Nat.add_assoc]; exact h2⟩

/-- The search returns the field of `a`. -/
theorem search_spec (a : EReal) (h0 : 0 ≤ a) (h1 : a < floatAt 253) :
    ∃ n, search a = BitVec.ofNat 32 n ∧ n < 253 ∧ floatAt n ≤ a ∧ a < floatAt (n + 1) := by
  have hs : Within a (search a) 1 :=
    step_within a _ 1 (step_within a _ 2 (step_within a _ 4 (step_within a _ 8 (step_within a _ 16 (step_within a _ 32
      (step_within a _ 64 (step_within a _ 128 ⟨0, rfl, by omega, by rw [floatAt_zero]; exact h0, .inl rfl⟩
        (by omega)) (by omega)) (by omega)) (by omega)) (by omega)) (by omega)) (by omega)) (by omega)
  obtain ⟨n, e, hn, ha, hb⟩ := hs
  have hlt : n < 253 := by
    by_contra hc
    rcases Nat.lt_or_ge n 255 with h | h
    · exact absurd (ha.trans_lt h1) (not_lt.mpr (floatAt_le h (by omega)))
    · have : n = 255 := by omega
      rw [this, floatAt_top, top_le_iff] at ha
      exact absurd h1 (by rw [ha]; exact not_top_lt)
  exact ⟨n, e, hlt, ha, hb.resolve_left (by omega)⟩

/-! ## The kernel's scale and its inverse -/

/-- The exponent of the scale, from the field found. -/
def expo (f : BitVec 32) : BitVec 32 :=
  Scalar.select (IntOp.cmpi .slt (f <<< (23#32).toNat) 8388608#32) 0#32 ((f <<< (23#32).toNat).sshiftRight (23#32).toNat - 126#32)

/-- The scale as the kernel computes it. -/
def scaleK (a : EReal) : EReal := Ideal.ofBits .f32 ((127#32 + expo (search a)) <<< (23#32).toNat)
/-- The inverse of the scale as the kernel computes it. -/
def invK (a : EReal) : EReal := Ideal.ofBits .f32 ((127#32 - expo (search a)) <<< (23#32).toNat)

theorem scale_bits : ∀ n : Fin 253,
    (127#32 + expo (BitVec.ofNat 32 n.val)) <<< (23#32).toNat = BitVec.ofNat 32 (if n.val = 0 then 127 else n.val + 1) <<< 23 := by
  decide +kernel
theorem inv_bits : ∀ n : Fin 253,
    (127#32 - expo (BitVec.ofNat 32 n.val)) <<< (23#32).toNat = BitVec.ofNat 32 (if n.val = 0 then 127 else 253 - n.val) <<< 23 := by
  decide +kernel

theorem scaleK_eq (a : EReal) (n : ℕ) (hn : n < 253) (e : search a = BitVec.ofNat 32 n) : scaleK a = floatAt (if n = 0 then 127 else n + 1) := by
  unfold scaleK floatAt
  rw [e, scale_bits ⟨n, hn⟩]
theorem invK_eq (a : EReal) (n : ℕ) (hn : n < 253) (e : search a = BitVec.ofNat 32 n) : invK a = floatAt (if n = 0 then 127 else 253 - n) := by
  unfold invK floatAt
  rw [e, inv_bits ⟨n, hn⟩]

/-! ## The reference's scale -/

/-- The powers of two that the reference compares with. -/
def pow2 (k : ℕ) : EReal := Ideal.exp2 ((((k : ℤ) - 125 : ℤ) : ℝ) : EReal)

/-- The scale as the reference computes it: the least power of two above `a`, or 1 where `a` is below the least normal float. -/
def scaleR (a : EReal) : EReal :=
  if a < floatAt 1 then 1 else (Finset.univ : Finset (Fin 254)).fold min ⊤ fun k => if a < pow2 k.val then pow2 k.val else ⊤

/-- The inverse of the scale as the reference computes it. -/
def invR (a : EReal) : EReal := Ideal.div 1 (scaleR a)

theorem pow2_eq (k : ℕ) : pow2 k = (((2 : ℝ) ^ ((k : ℤ) - 125) : ℝ) : EReal) := by
  unfold pow2
  show (((2 : ℝ) ^ ((((k : ℤ) - 125 : ℤ) : ℝ)) : ℝ) : EReal) = _
  rw [Real.rpow_intCast]

theorem pow2_floatAt (k : ℕ) (hk : k < 253) : pow2 k = floatAt (k + 2) := by
  rw [pow2_eq, floatAt_mid (k + 2) (by omega) (by omega)]
  congr 2
  push_cast
  ring

theorem scaleR_eq (a : EReal) (n : ℕ) (hn : n < 253) (h1 : floatAt n ≤ a) (h2 : a < floatAt (n + 1)) :
    scaleR a = floatAt (if n = 0 then 127 else n + 1) := by
  unfold scaleR
  rcases Nat.eq_zero_or_pos n with rfl | h0
  · rw [if_pos h2, if_pos rfl, floatAt_mid 127 (by omega) (by omega)]
    simp
  · rw [if_neg (not_lt.mpr ((floatAt_le (by omega) h0).trans h1)), if_neg (by omega)]
    have hk : pow2 (n - 1) = floatAt (n + 1) := by rw [pow2_floatAt _ (by omega)]; congr 1; omega
    refine le_antisymm ?_ ?_
    · refine (Finset.fold_min_le _).mpr (.inr ⟨⟨n - 1, by omega⟩, Finset.mem_univ _, ?_⟩)
      simp only [hk, if_pos h2, le_refl]
    · refine (Finset.le_fold_min _).mpr ⟨le_top, fun k _ => ?_⟩
      split_ifs with hlt
      · by_contra hc
        have hc := not_le.mp hc
        rcases Nat.lt_or_ge k.val 253 with hk3 | hk3
        · rw [pow2_floatAt _ hk3] at hc hlt
          have hkn : k.val + 2 ≤ n := by
            by_contra hcn
            exact absurd hc (not_lt.mpr (floatAt_le (by omega) (by omega)))
          exact absurd (hlt.trans_le ((floatAt_le (by omega) hkn).trans h1)) (lt_irrefl _)
        · rw [pow2_eq, floatAt_mid (n + 1) (by omega) (by omega)] at hc
          have hc := EReal.coe_lt_coe_iff.mp hc
          have := (zpow_lt_zpow_iff_right₀ (by norm_num : (1 : ℝ) < 2)).mp hc
          omega
      · exact le_top

/-! ## The two agree -/

theorem scaleK_eq_scaleR (a : EReal) (h0 : 0 ≤ a) (h1 : a < floatAt 253) : scaleK a = scaleR a := by
  obtain ⟨n, e, hn, ha, hb⟩ := search_spec a h0 h1
  rw [scaleK_eq a n hn e, scaleR_eq a n hn ha hb]

theorem invK_eq_invR (a : EReal) (h0 : 0 ≤ a) (h1 : a < floatAt 253) : invK a = invR a := by
  obtain ⟨n, e, hn, ha, hb⟩ := search_spec a h0 h1
  unfold invR
  rw [invK_eq a n hn e, scaleR_eq a n hn ha hb]
  rw [floatAt_mid _ (by split_ifs <;> omega) (by split_ifs <;> omega), floatAt_mid _ (by split_ifs <;> omega) (by split_ifs <;> omega)]
  unfold Ideal.div
  have hne : (((2 : ℝ) ^ (((if n = 0 then 127 else n + 1 : ℕ) : ℤ) - 127) : ℝ) : EReal) ≠ 0 := by
    exact_mod_cast (zpow_pos (by norm_num : (0 : ℝ) < 2) _).ne'
  rw [if_neg hne, one_mul, ← EReal.coe_inv, ← zpow_neg]
  congr 2
  split_ifs <;> omega

end Cert.Quantiser

end
-- ==== Proof.Spec.lean ====
module

public import proofs.«01_k».proof.Proof.Search

/-!
  The three results, element by element, as functions of the three arguments: the rotation of each group of 128 columns by
  the Hadamard matrix, the scale of each group, the codes, and the product of the scaled codes with the weights.
-/

@[expose] public section

noncomputable section

namespace Cert.Quantiser

open Idealize.ShloMosaic

/-- The Hadamard matrix of order two. -/
def base (i j : ℕ) : EReal := if i = 1 ∧ j = 1 then -1 else 1

/-- A normal float, by its fields. -/
theorem ofBits_normal (b : BitVec 32) (s : Bool) (e f : ℕ) (hs : (b.extractLsb' 31 1 == 1#1) = s) (he : (b.extractLsb' 23 8).toNat = e)
    (hf : (b.extractLsb' 0 23).toNat = f) (h0 : e ≠ 0) (h1 : e ≠ 255) :
    Ideal.ofBits .f32 b = (((if s then -1 else 1) * (2 ^ 23 + f : ℕ) * (2 : ℝ) ^ ((e : ℤ) - 127 - 23) : ℝ) : EReal) := by
  show Ideal.ieee 8 23 b = _
  unfold Ideal.ieee
  simp only [Nat.reduceAdd, hs, he, hf]
  rw [if_neg (by omega), if_neg h0]
  norm_num

theorem ofBits_neg_one : Ideal.ofBits .f32 0xBF800000#32 = -1 := by
  rw [ofBits_normal _ true 127 0 (by decide) (by decide) (by decide) (by decide) (by decide)]
  norm_num

/-- The signs of the Hadamard matrix of order 128. -/
def had (i j : ℕ) : EReal :=
  base (i / 2 / 2 / 2 / 2 / 2 / 2) (j / 2 / 2 / 2 / 2 / 2 / 2) * base (i / 2 / 2 / 2 / 2 / 2 % 2) (j / 2 / 2 / 2 / 2 / 2 % 2)
    * base (i / 2 / 2 / 2 / 2 % 2) (j / 2 / 2 / 2 / 2 % 2) * base (i / 2 / 2 / 2 % 2) (j / 2 / 2 / 2 % 2)
    * base (i / 2 / 2 % 2) (j / 2 / 2 % 2) * base (i / 2 % 2) (j / 2 % 2) * base (i % 2) (j % 2)

/-- The float nearest to `128 ^ (-1/2)`. -/
def hadScale : EReal := Ideal.ofBits .f32 0x3DB504F3#32
/-- The float nearest to 1/448. -/
def maxInv : EReal := Ideal.ofBits .f32 0x3B124925#32

variable (A : (⟨3, ![8, 2048, 8192]⟩ : Shape).Idx → EReal) (W : (⟨2, ![8192, 14848]⟩ : Shape).Idx → EReal)
  (S : (⟨1, ![14848]⟩ : Shape).Idx → EReal)

/-- Column `q` of token `r`. -/
def xAt (r q : ℕ) : EReal :=
  A (ix3 ⟨r / 2048 % 8, Nat.mod_lt _ (by decide)⟩ ⟨r % 2048, Nat.mod_lt _ (by decide)⟩ ⟨q % 8192, Nat.mod_lt _ (by decide)⟩)

/-- The rotated column `q` of token `r`. -/
def rotAt (r q : ℕ) : EReal := ∑ k : Fin 128, xAt A r (q / 128 * 128 + k.val) * (had k.val (q % 128) * hadScale)

/-- The largest absolute value of group `g` of token `r`, over 448. -/
def amaxAt (r g : ℕ) : EReal :=
  (Finset.univ : Finset (Fin 128)).fold max (Ideal.ofBits .f32 0xFF800000#32)
    (fun j => max (rotAt A r (g * 128 + j.val)) (-rotAt A r (g * 128 + j.val))) * maxInv

/-- The code of column `q` of token `r`. -/
def codeAt (r q : ℕ) : EReal :=
  min (Ideal.ofBits .f32 0x43E00000#32) (max (Ideal.ofBits .f32 0xC3E00000#32) (rotAt A r q * invR (amaxAt A r (q / 128))))

/-- The code times its scale. -/
def xaAt (r q : ℕ) : EReal := codeAt A r q * scaleR (amaxAt A r (q / 128))

/-- The first result. -/
def yOf : (⟨2, ![16384, 14848]⟩ : Shape).Idx → EReal := fun y =>
  (∑ q : Fin 8192, xaAt A (y 0).val q.val * W (ix2 q (y 1))) * S (ix1 (y 1))
/-- The second result. -/
def codesOf : (⟨2, ![16384, 8192]⟩ : Shape).Idx → EReal := fun y => codeAt A (y 0).val (y 1).val
/-- The third result. -/
def scalesOf : (⟨2, ![16384, 64]⟩ : Shape).Idx → EReal := fun y => scaleR (amaxAt A (y 0).val (y 1).val)

end Cert.Quantiser

end
-- ==== Proof.KernelPayload.lean ====
module

public import proofs.«01_k».proof.Proof.Payload
public import proofs.«01_k».proof.Proof.Spec

/-!
  What the kernel computes at one grid point, element by element.
-/

@[expose] public section

set_option maxRecDepth 16384

noncomputable section

namespace Cert.KernelIdeal.Hand

open Cert.KernelIdeal Cert.KernelIdeal.Gen Cert.Quantiser Idealize.ShloMosaic

/-! ## The quantiser of a group -/

/-- The greatest of each row. -/
def maxV (B : FVec Ideal S1024x128 .f32) : FVec Ideal S1024x1 .f32 :=
  shapeCast S1024x1 (multiReduction .maximumf [1] S1024 B 0xFF800000#32 reduces_S1024x128_S1024 (.inl rfl) rfl) shapeCasts_S1024_S1024x1

theorem maxV_apply (B : FVec Ideal S1024x128 .f32) (i : Fin 1024) (j : Fin 1) :
    maxV B (ix2 i j) = (Finset.univ : Finset (Fin 128)).fold max (Ideal.ofBits .f32 0xFF800000#32) (fun k => B (ix2 i k)) := by
  pointwise [maxV]

theorem mulf_at (a b : FVec Ideal S1024x1 .f32) (i : S1024x1.Idx) : mulf a b i = (a i * b i : EReal) := rfl
theorem absf_at (a : FVec Ideal S1024x128 .f32) (i : S1024x128.Idx) : absf a i = (max (a i) (-a i) : EReal) := rfl
theorem maxInv_at (i : S1024x1.Idx) : (broadcast S1024x1 (Scalar.ofBits (F := Ideal) .f32 0x3B124925#32) : FVec Ideal S1024x1 .f32) i = maxInv := rfl
theorem amaxCol_eq (R : FVec Ideal S1024x128 .f32) : amaxCol R = mulf (maxV (absf R)) (broadcast S1024x1 (Scalar.ofBits .f32 0x3B124925#32)) := rfl

theorem amaxCol_apply (R : FVec Ideal S1024x128 .f32) (i : Fin 1024) (j : Fin 1) :
    amaxCol R (ix2 i j) = (Finset.univ : Finset (Fin 128)).fold max (Ideal.ofBits .f32 0xFF800000#32) (fun k => max (R (ix2 i k)) (-R (ix2 i k))) * maxInv := by
  rw [amaxCol_eq, mulf_at, maxV_apply, maxInv_at]
  simp only [absf_at]

theorem fieldStep_apply (b : BitVec 32) (a : FVec Ideal S1024x1 .f32) (f : IVec S1024x1 32) (i : S1024x1.Idx) :
    fieldStep b a f i = step b (a i) (f i) := rfl

theorem field_apply (a : FVec Ideal S1024x1 .f32) (i : S1024x1.Idx) : field a i = search (a i) := by
  unfold field search
  simp only [fieldStep_apply]
  rfl

theorem expOf_of (a : FVec Ideal S1024x1 .f32) (i : S1024x1.Idx) : expOf a i = expo (field a i) := rfl

theorem scaleCol_apply (a : FVec Ideal S1024x1 .f32) (i : S1024x1.Idx) : scaleCol a i = scaleK (a i) := by
  have e : scaleCol a i = Ideal.ofBits .f32 ((127#32 + expOf a i) <<< (23#32).toNat) := rfl
  rw [e, expOf_of, field_apply]
  rfl
theorem invCol_apply (a : FVec Ideal S1024x1 .f32) (i : S1024x1.Idx) : invCol a i = invK (a i) := by
  have e : invCol a i = Ideal.ofBits .f32 ((127#32 - expOf a i) <<< (23#32).toNat) := rfl
  rw [e, expOf_of, field_apply]
  rfl

/-- The codes from the rotated values and the inverse of the scale. -/
def codeV (R : FVec Ideal S1024x128 .f32) (s : FVec Ideal S1024x1 .f32) : FVec Ideal S1024x128 .fp8e4m3 :=
  truncf .fp8e4m3 (minimumf (broadcast S1024x128 (Scalar.ofBits .f32 0x43E00000#32)) (maximumf (broadcast S1024x128 (Scalar.ofBits .f32 0xC3E00000#32))
    (mulf R (broadcastTo S1024x128 s broadcasts_S1024x1_S1024x128)))) bitsLt_fp8e4m3_f32
theorem codeOf_eq (R : FVec Ideal S1024x128 .f32) : codeOf R = codeV R (invCol (amaxCol R)) := rfl
theorem codeV_apply (R : FVec Ideal S1024x128 .f32) (s : FVec Ideal S1024x1 .f32) (i : Fin 1024) (j : Fin 128) :
    codeV R s (ix2 i j) = min (Ideal.ofBits .f32 0x43E00000#32) (max (Ideal.ofBits .f32 0xC3E00000#32) (R (ix2 i j) * s (ix2 i 0) : EReal)) := by
  pointwise [codeV]

/-- The codes times the scale. -/
def xaV (C : FVec Ideal S1024x128 .fp8e4m3) (s : FVec Ideal S1024x1 .f32) : FVec Ideal S1024x128 .bf16 :=
  mulf (extf .bf16 C bitsLt_fp8e4m3_bf16) (broadcastTo S1024x128 (truncf .bf16 s bitsLt_bf16_f32) broadcasts_S1024x1_S1024x128)
theorem xaOf_eq (R : FVec Ideal S1024x128 .f32) : xaOf R = xaV (codeOf R) (scaleCol (amaxCol R)) := rfl
theorem xaV_apply (C : FVec Ideal S1024x128 .fp8e4m3) (s : FVec Ideal S1024x1 .f32) (i : Fin 1024) (j : Fin 128) :
    xaV C s (ix2 i j) = (C (ix2 i j) * s (ix2 i 0) : EReal) := by
  pointwise [xaV]

theorem cast4 (C : FVec Ideal S1024x128 .bf16) (i : Fin 1024) (j : Fin 128) :
    shapeCast S1x1x1024x128 (shapeCast S1024x128 C shapeCasts_S1024x128_S1024x128) shapeCasts_S1024x128_S1x1x1024x128 (ix4 0 0 i j) = C (ix2 i j) := by
  pointwise

/-- One column of the block of scales replaced. -/
def putV (k : BitVec 32) (s : FVec Ideal S1024x64 .f32) (a : FVec Ideal S1024x1 .f32) : FVec Ideal S1024x64 .f32 :=
  select (cmpi .eq (iota .tc S1024x64 32 [1] iota_S1024x64_d1_w32) (broadcast S1024x64 k))
    (broadcastTo S1024x64 (shapeCast S1024x1 a shapeCasts_S1024x1_S1024x1) broadcasts_S1024x1_S1024x64) s
theorem scaleStep_eq (k : BitVec 32) (s : FVec Ideal S1024x64 .f32) (v : FVec Ideal S1024x128 .f32) :
    scaleStep k s v = putV k s (scaleCol (amaxCol v)) := rfl
theorem putV_apply (k : BitVec 32) (s : FVec Ideal S1024x64 .f32) (a : FVec Ideal S1024x1 .f32) (i : Fin 1024) (j : Fin 64) :
    putV k s a (ix2 i j) = if BitVec.ofNat 32 j.val = k then a (ix2 i 0) else s (ix2 i j) := by
  pointwise [putV]
  by_cases e : BitVec.ofNat 32 j.val = k
  · simp [e, Scalar.select, IntOp.cmpi]
  · have e' : (BitVec.ofNat 32 j.val == k) = false := beq_eq_false_iff_ne.mpr e
    simp [e, e', Scalar.select, IntOp.cmpi]

/-! ## The rotation -/

theorem pay4_apply (x : Vec Ideal S1024x256 .bf16) (h : Vec Ideal S256x256 .bf16) (i : Fin 1024) (j : Fin 256) :
    k0_pay4 x h (ix2 i j) = (∑ k : Fin 256, x (ix2 i k) * h (ix2 k j)) * hadScale := by
  pointwise [k0_pay4]
  rfl

theorem slice0 (R : FVec Ideal S1024x256 .f32) (i : Fin 1024) (j : Fin 128) :
    extractStridedSlice S1024x128 ![0, 0] R slices_S1024x256_o0_0_S1024x128 (ix2 i j) = R (ix2 i ⟨j.val, by omega⟩) := by
  pointwise
theorem slice1 (R : FVec Ideal S1024x256 .f32) (i : Fin 1024) (j : Fin 128) :
    extractStridedSlice S1024x128 ![0, 128] R slices_S1024x256_o0_128_S1024x128 (ix2 i j) = R (ix2 i ⟨128 + j.val, by omega⟩) := by
  pointwise
theorem colsL_apply (x : Vec Ideal S1024x512 .bf16) (i : Fin 1024) (j : Fin 256) : colsL x (ix2 i j) = x (ix2 i ⟨j.val, by omega⟩) := by
  pointwise [colsL]
theorem colsR_apply (x : Vec Ideal S1024x512 .bf16) (i : Fin 1024) (j : Fin 256) : colsR x (ix2 i j) = x (ix2 i ⟨256 + j.val, by omega⟩) := by
  pointwise [colsR]
theorem hadM_eq (h : Vec Ideal S256x256 .bf16) : hadM h = h := by
  funext y
  obtain ⟨i, j, rfl⟩ : ∃ (i : Fin 256) (j : Fin 256), y = ix2 i j := ⟨y 0, y 1, eq_ix2 y⟩
  pointwise [hadM]

/-! ## The product with the weights -/

theorem chunkDot_apply (C : Vec Ideal S1x1x1024x512 .bf16) (w : Vec Ideal S512x512 .fp8e4m3) (i : Fin 1024) (j : Fin 512) :
    chunkDot C w (ix2 i j) = (∑ k : Fin 512, C (ix4 0 0 i k) * w (ix2 k j) : EReal) := by
  pointwise [chunkDot]

/-- The sum times the weights' scales. -/
def outV (acc : FVec Ideal S1024x512 .f32) (s : S1x512.Idx → Elt Ideal .f32) : FVec Ideal S1024x512 .bf16 :=
  truncf .bf16 (mulf acc
    (broadcastTo S1024x512 (shapeCast S1x512 (View.ld s (Rect.unit (s := S1x512) ![0, 0] S1x512.size inb_S1x512_S1x512_0_0) : Vec Ideal S1x512 .f32)
      shapeCasts_S1x512_S1x512) broadcasts_S1x512_S1024x512))
    bitsLt_bf16_f32
theorem yBlk_eq (C : ℕ → Vec Ideal S1x1x1024x512 .bf16) (w : Vec Ideal S8192x512 .fp8e4m3) (s : Vec Ideal S1x512 .f32) :
    yBlk C w s = outV (accTo C (wRows w) 15) s := rfl
theorem outV_apply (acc : FVec Ideal S1024x512 .f32) (s : Vec Ideal S1x512 .f32) (i : Fin 1024) (j : Fin 512) :
    outV acc s (ix2 i j) = (acc (ix2 i j) * s (ix2 0 j) : EReal) := by
  pointwise [outV]

end Cert.KernelIdeal.Hand

end
-- ==== Proof.Bounds.lean ====
module

public import proofs.«01_k».proof.Proof.Spec

/-!
  The sizes of the intermediate values when every entry of the tokens is finite: the rotated values are real, and the
  largest absolute value of a group, over 448, lies in the range where the scale is a power of two that a float's exponent
  field can hold together with its inverse.
-/

@[expose] public section

noncomputable section

namespace Cert.Quantiser

open Idealize.ShloMosaic

/-- A real of absolute value at most `b`. -/
def Bdd (b : ℝ) (x : EReal) : Prop := ∃ r : ℝ, x = (r : EReal) ∧ |r| ≤ b

theorem Bdd.mul {a b : ℝ} {x y : EReal} (hx : Bdd a x) (hy : Bdd b y) : Bdd (a * b) (x * y) := by
  obtain ⟨r, rfl, hr⟩ := hx
  obtain ⟨s, rfl, hs⟩ := hy
  exact ⟨r * s, (EReal.coe_mul r s).symm, by rw [abs_mul]; exact mul_le_mul hr hs (abs_nonneg _) ((abs_nonneg _).trans hr)⟩

theorem Bdd.add {a b : ℝ} {x y : EReal} (hx : Bdd a x) (hy : Bdd b y) : Bdd (a + b) (x + y) := by
  obtain ⟨r, rfl, hr⟩ := hx
  obtain ⟨s, rfl, hs⟩ := hy
  exact ⟨r + s, (EReal.coe_add r s).symm, (abs_add_le r s).trans (add_le_add hr hs)⟩

theorem Bdd.sum {ι : Type} (s : Finset ι) (b : ℝ) (f : ι → EReal) (h : ∀ i, Bdd b (f i)) : Bdd (s.card * b) (∑ i ∈ s, f i) := by
  classical
  induction s using Finset.induction_on with
  | empty => exact ⟨0, by simp, by simp⟩
  | insert i s hi ih =>
    rw [Finset.sum_insert hi, Finset.card_insert_of_notMem hi]
    have := (h i).add ih
    rwa [show b + s.card * b = ((s.card + 1 : ℕ) : ℝ) * b by push_cast; ring] at this

theorem Bdd.mono {a b : ℝ} {x : EReal} (h : Bdd a x) (hab : a ≤ b) : Bdd b x := by
  obtain ⟨r, e, hr⟩ := h
  exact ⟨r, e, hr.trans hab⟩

theorem base_bdd (i j : ℕ) : Bdd 1 (base i j) := by
  unfold base
  split_ifs
  · exact ⟨-1, by simp, by simp⟩
  · exact ⟨1, by simp, by simp⟩

theorem had_bdd (i j : ℕ) : Bdd 1 (had i j) := by
  unfold had
  have h := ((((((base_bdd (i / 2 / 2 / 2 / 2 / 2 / 2) (j / 2 / 2 / 2 / 2 / 2 / 2)).mul (base_bdd (i / 2 / 2 / 2 / 2 / 2 % 2) (j / 2 / 2 / 2 / 2 / 2 % 2))).mul
    (base_bdd (i / 2 / 2 / 2 / 2 % 2) (j / 2 / 2 / 2 / 2 % 2))).mul (base_bdd (i / 2 / 2 / 2 % 2) (j / 2 / 2 / 2 % 2))).mul
    (base_bdd (i / 2 / 2 % 2) (j / 2 / 2 % 2))).mul (base_bdd (i / 2 % 2) (j / 2 % 2))).mul (base_bdd (i % 2) (j % 2))
  exact h.mono (by norm_num)

theorem hadScale_real : ∃ r : ℝ, hadScale = (r : EReal) ∧ 0 ≤ r ∧ r ≤ 1 / 8 := by
  refine ⟨_, ofBits_normal _ false 123 3474675 (by decide) (by decide) (by decide) (by decide) (by decide), ?_, ?_⟩ <;> norm_num

theorem maxInv_real : ∃ r : ℝ, maxInv = (r : EReal) ∧ 0 ≤ r ∧ r ≤ 1 / 256 := by
  refine ⟨_, ofBits_normal _ false 118 1198373 (by decide) (by decide) (by decide) (by decide) (by decide), ?_, ?_⟩ <;> norm_num

/-- A factor that is real and not negative distributes over every sum. -/
theorem sum_mul_hadScale {ι : Type} (s : Finset ι) (f : ι → EReal) : (∑ i ∈ s, f i) * hadScale = ∑ i ∈ s, f i * hadScale := by
  classical
  obtain ⟨r, e, h0, _⟩ := hadScale_real
  rw [e]
  induction s using Finset.induction_on with
  | empty => simp
  | insert i s hi ih =>
    rw [Finset.sum_insert hi, Finset.sum_insert hi, ← ih]
    exact EReal.right_distrib_of_nonneg_of_ne_top (EReal.coe_nonneg.mpr h0) (EReal.coe_ne_top r) _ _

variable (A : (⟨3, ![8, 2048, 8192]⟩ : Shape).Idx → EReal)

/-- Every entry is a real below `2 ^ 128` in absolute value. -/
def Finite : Prop := ∀ i, Bdd (2 ^ 128) (A i)

theorem rot_bdd (hA : Finite A) (r q : ℕ) : Bdd (2 ^ 132) (rotAt A r q) := by
  unfold rotAt
  obtain ⟨s, es, h0, h1⟩ := hadScale_real
  have hs : Bdd (1 / 8) hadScale := ⟨s, es, by rw [abs_of_nonneg h0]; exact h1⟩
  refine (Bdd.sum Finset.univ (2 ^ 128 * (1 * (1 / 8))) _ fun k => ?_).mono ?_
  · exact (hA _).mul ((had_bdd _ _).mul hs)
  · rw [Finset.card_univ, Fintype.card_fin]
    norm_num

theorem fold_max_bdd {ι : Type} (s : Finset ι) (hs : s.Nonempty) (b : ℝ) (f : ι → EReal) (h : ∀ i, Bdd b (f i) ∧ 0 ≤ f i) :
    ∃ r : ℝ, s.fold max (⊥ : EReal) f = (r : EReal) ∧ 0 ≤ r ∧ r ≤ b := by
  classical
  induction hs using Finset.Nonempty.cons_induction with
  | singleton i =>
    obtain ⟨⟨r, e, hr⟩, h0⟩ := h i
    rw [e] at h0
    exact ⟨r, by simp [e], EReal.coe_nonneg.mp h0, (le_abs_self r).trans hr⟩
  | cons i s hi _ ih =>
    obtain ⟨⟨r, e, hr⟩, h0⟩ := h i
    rw [e] at h0
    obtain ⟨t, et, ht0, ht⟩ := ih
    rw [Finset.fold_cons, et, e]
    exact ⟨max r t, (EReal.coe_strictMono.monotone.map_max).symm, le_max_of_le_right ht0, max_le ((le_abs_self r).trans hr) ht⟩

theorem abs_bdd {b : ℝ} {x : EReal} (h : Bdd b x) : Bdd b (max x (-x)) ∧ 0 ≤ max x (-x) := by
  obtain ⟨r, rfl, hr⟩ := h
  have e : max (r : EReal) (-(r : EReal)) = ((|r| : ℝ) : EReal) := by
    rw [← EReal.coe_neg, ← EReal.coe_strictMono.monotone.map_max]
    rfl
  rw [e]
  exact ⟨⟨|r|, rfl, by rwa [abs_abs]⟩, EReal.coe_nonneg.mpr (abs_nonneg r)⟩

theorem amax_range (hA : Finite A) (r g : ℕ) : 0 ≤ amaxAt A r g ∧ amaxAt A r g < floatAt 253 := by
  have eb : Ideal.ofBits .f32 0xFF800000#32 = ⊥ := by
    show Ideal.ieee 8 23 (0xFF800000#32) = ⊥
    have h1 : ((0xFF800000#32).extractLsb' 31 1 == 1#1) = true := by decide
    have h2 : ((0xFF800000#32).extractLsb' 23 8).toNat = 255 := by decide
    have h3 : ((0xFF800000#32).extractLsb' 0 23).toNat = 0 := by decide
    unfold Ideal.ieee
    simp only [Nat.reduceAdd, h1, h2, h3]
    norm_num
  obtain ⟨v, ev, h0, h1⟩ := fold_max_bdd Finset.univ Finset.univ_nonempty (2 ^ 132)
    (fun j : Fin 128 => max (rotAt A r (g * 128 + j.val)) (-rotAt A r (g * 128 + j.val))) fun j => abs_bdd (rot_bdd A hA r _)
  obtain ⟨s, es, hs0, hs1⟩ := maxInv_real
  unfold amaxAt
  rw [eb, ev, es, ← EReal.coe_mul, floatAt_mid 253 (by omega) (by omega)]
  refine ⟨EReal.coe_nonneg.mpr (mul_nonneg h0 hs0), EReal.coe_lt_coe_iff.mpr ?_⟩
  calc v * s ≤ 2 ^ 132 * (1 / 256) := mul_le_mul h1 hs1 hs0 (by positivity)
    _ < (2 : ℝ) ^ (((253 : ℕ) : ℤ) - 127) := by norm_num

theorem bf16_max : ∃ r : ℝ, Ideal.ofBits .bf16 0x7F7F#16 = (r : EReal) ∧ r ≤ 2 ^ 128 := by
  have h1 : ((0x7F7F#16).extractLsb' 15 1 == 1#1) = false := by decide
  have h2 : ((0x7F7F#16).extractLsb' 7 8).toNat = 254 := by decide
  have h3 : ((0x7F7F#16).extractLsb' 0 7).toNat = 127 := by decide
  have e : Ideal.ofBits .bf16 0x7F7F#16 = ((((1 : ℝ)) * (2 ^ 7 + 127 : ℕ) * (2 : ℝ) ^ ((254 : ℤ) - 127 - 7) : ℝ) : EReal) := by
    show Ideal.ieee 8 7 (0x7F7F#16) = _
    unfold Ideal.ieee
    simp only [Nat.reduceAdd, h1, h2, h3]
    norm_num
  refine ⟨_, e, ?_⟩
  norm_num

/-- A value whose absolute value is at most the greatest finite bf16 is real. -/
theorem bdd_of_le (x : EReal) (h : max x (-x) ≤ Ideal.ofBits .bf16 0x7F7F#16) : Bdd (2 ^ 128) x := by
  obtain ⟨b, eb, hb⟩ := bf16_max
  rw [eb] at h
  induction x with
  | bot => exact absurd (le_of_max_le_right h) (by simp)
  | top => exact absurd (le_of_max_le_left h) (by simp)
  | coe r =>
    refine ⟨r, rfl, abs_le.mpr ⟨?_, ?_⟩⟩
    · have := le_of_max_le_right h
      rw [← EReal.coe_neg, EReal.coe_le_coe_iff] at this
      linarith
    · have := le_of_max_le_left h
      rw [EReal.coe_le_coe_iff] at this
      linarith

end Cert.Quantiser

end
-- ==== Proof.KernelHost.lean ====
module

public import proofs.«01_k».proof.Proof.Gen.KernelIdeal.Skeleton
public import proofs.«01_k».proof.Proof.Schedule
public import proofs.«01_k».proof.Proof.Spec
public import Idealize.ShloMosaic.Lib.StableHlo.ReadAt

/-!
  The arrays that the kernel is handed, element by element.
-/

@[expose] public section

set_option maxRecDepth 16384

noncomputable section

namespace Cert.KernelIdeal.Hand

open Cert.KernelIdeal Cert.KernelIdeal.Gen Cert.Quantiser Idealize.ShloMosaic Idealize.ShloMosaic.TcCoe

variable (m : (ℓ : Loc nD τ sig) → Buf (Elt Ideal) ℓ) (c : Dev nD)

theorem lit0_base (a b : Fin 2) : Ideal.ofBits .f32 (lit0 (S2x2.rowMajor (ix2 a b))) = base a.val b.val := by
  have e : lit0 (S2x2.rowMajor (ix2 a b)) = if a.val = 1 ∧ b.val = 1 then 0xBF800000#32 else 0x3F800000#32 := by
    revert a b; decide +kernel
  rw [e]
  unfold base
  split_ifs
  · exact ofBits_neg_one
  · exact Ideal.ofBits_one_f32

theorem scales_in (i : Fin 1) (j : Fin 14848) : (V m c main_v17 (ix2 i j) : EReal) = m (c, main_arg2) (ix1 j) := by
  unfold V
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_reads_at

theorem weights_in : V m c main_arg1 = m (c, main_arg1) := by
  unfold V
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_reads_at

theorem tokens_in (i : Fin 16384) (j : Fin 8192) : (V m c main_v16 (ix2 i j) : EReal) = xAt (m (c, main_arg0)) i.val j.val := by
  unfold V
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_reads_at
  unfold xAt
  refine congrArg _ ?_
  congr 1 <;> exact Fin.ext (by simp only; omega)

/-- The identity of order two. -/
def eyeAt (a b : ℕ) : EReal := if a = b then 1 else 0

theorem eye_entry (a b : Fin 2) :
    (FloatOps.uitofp (F := Ideal) .f32 (IntOp.cmpi .eq (IntOp.addi (BitVec.ofNat 32 a.val) 0#32) (BitVec.ofNat 32 b.val)) : EReal) = eyeAt a.val b.val := by
  have e : IntOp.cmpi .eq (IntOp.addi (BitVec.ofNat 32 a.val) 0#32) (BitVec.ofNat 32 b.val) = if a.val = b.val then 1#1 else 0#1 := by
    revert a b; decide +kernel
  rw [e]
  unfold eyeAt
  split_ifs
  · show (((1#1 : BitVec 1).toNat : ℝ) : EReal) = 1
    norm_num
  · show (((0#1 : BitVec 1).toNat : ℝ) : EReal) = 0
    norm_num

theorem hadamard_in (i j : Fin 256) : (V m c main_v15 (ix2 i j) : EReal) = eyeAt (i.val / 128) (j.val / 128) * had (i.val % 128) (j.val % 128) := by
  unfold V
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_reads_at
  simp only [lit0_base]
  rw [eye_entry ⟨i.val / 128, by omega⟩ ⟨j.val / 128, by omega⟩]
  rfl

end Cert.KernelIdeal.Hand

end
-- ==== Proof.KernelBlock.lean ====
module

public import proofs.«01_k».proof.Proof.KernelPayload
public import proofs.«01_k».proof.Proof.Bounds
public import proofs.«01_k».proof.Proof.KernelHost
public import Idealize.ShloMosaic.Lib.Pipeline.ValueKit

/-!
  One column block of the kernel: the rotated groups, the scales, the codes and the scaled codes are those of the reference.
-/

@[expose] public section

set_option maxRecDepth 16384

noncomputable section

namespace Cert.KernelIdeal.Hand

open Cert.KernelIdeal Cert.KernelIdeal.Gen Cert.Quantiser Idealize.ShloMosaic

theorem gidx_eq (r : Fin 1024) (q : ℕ) : gidx r q = ix2 r ⟨q % 128, Nat.mod_lt _ (by decide)⟩ := by
  funext a
  match a with
  | ⟨0, _⟩ => rfl
  | ⟨1, _⟩ => rfl

theorem xidx_eq (r : Fin 1024) (q : ℕ) : xidx r q = ix4 0 0 r ⟨q % 128, Nat.mod_lt _ (by decide)⟩ := by
  funext a
  match a with
  | ⟨0, _⟩ => rfl
  | ⟨1, _⟩ => rfl
  | ⟨2, _⟩ => rfl
  | ⟨3, _⟩ => rfl

variable (A : (⟨3, ![8, 2048, 8192]⟩ : Shape).Idx → EReal) (p n : ℕ) (x : Vec Ideal S1024x512 .bf16) (h : Vec Ideal S256x256 .bf16)
  (hx : ∀ (i : Fin 1024) (j : Fin 512), (x (ix2 i j) : EReal) = xAt A (1024 * p + i.val) (512 * n + j.val))
  (hh : ∀ i j : Fin 256, (h (ix2 i j) : EReal) = eyeAt (i.val / 128) (j.val / 128) * had (i.val % 128) (j.val % 128))

/-! ## The rotation -/

include hh in
/-- Half of a column block times the matrix of order 256: each half of the result is the product of that half alone. -/
theorem rot_half (z : Vec Ideal S1024x256 .bf16) (r o : ℕ) (i : Fin 1024)
    (hz : ∀ k : Fin 256, (z (ix2 i k) : EReal) = xAt A r (o * 128 + k.val)) (b : ℕ) (hb : b < 2) (j : Fin 128) :
    (k0_pay4 z h (ix2 i ⟨b * 128 + j.val, by omega⟩) : EReal) = rotAt A r ((o + b) * 128 + j.val) := by
  rw [pay4_apply, sum_mul_hadScale,
    Fin.sum_univ_two_halves 128 128 rfl (fun k : Fin 256 => (z (ix2 i k) * h (ix2 k ⟨b * 128 + j.val, by omega⟩) * hadScale : EReal))]
  unfold rotAt
  rw [← Finset.sum_add_distrib]
  refine Finset.sum_congr rfl fun k _ => ?_
  simp only [hz, hh]
  rw [show ((o + b) * 128 + j.val) / 128 = o + b by omega, show ((o + b) * 128 + j.val) % 128 = j.val by omega,
    show (b * 128 + j.val) / 128 = b by omega, show (b * 128 + j.val) % 128 = j.val by omega,
    show k.val / 128 = 0 by omega, show k.val % 128 = k.val by omega, show (128 + k.val) / 128 = 1 by omega, show (128 + k.val) % 128 = k.val by omega]
  have hb' : b = 0 ∨ b = 1 := by omega
  rcases hb' with rfl | rfl
  · simp [eyeAt, mul_assoc]
  · rw [show o * 128 + (128 + k.val) = (o + 1) * 128 + k.val by omega]
    simp [eyeAt, mul_assoc]

include hx hh in
theorem grp_value (g : ℕ) (hg : g < 4) (i : Fin 1024) (j : Fin 128) :
    (grp x h g (ix2 i j) : EReal) = rotAt A (1024 * p + i.val) ((4 * n + g) * 128 + j.val) := by
  have hl : ∀ k : Fin 256, (colsL x (ix2 i k) : EReal) = xAt A (1024 * p + i.val) ((4 * n) * 128 + k.val) := fun k => by
    rw [colsL_apply, hx, show 4 * n * 128 + k.val = 512 * n + k.val by omega]
  have hr : ∀ k : Fin 256, (colsR x (ix2 i k) : EReal) = xAt A (1024 * p + i.val) ((4 * n + 2) * 128 + k.val) := fun k => by
    rw [colsR_apply, hx, show (4 * n + 2) * 128 + k.val = 512 * n + (256 + k.val) by omega]
  have hg' : g = 0 ∨ g = 1 ∨ g = 2 ∨ g = 3 := by omega
  rcases hg' with rfl | rfl | rfl | rfl
  · show (grp0 x h (ix2 i j) : EReal) = _
    unfold grp0
    rw [slice0, hadM_eq, ← rot_half A h hh _ _ _ i hl 0 (by omega) j]
    congr 2
    exact Fin.ext (by simp)
  · show (grp1 x h (ix2 i j) : EReal) = _
    unfold grp1
    rw [slice1, hadM_eq, ← rot_half A h hh _ _ _ i hl 1 (by omega) j]
  · show (grp2 x h (ix2 i j) : EReal) = _
    unfold grp2
    rw [slice0, hadM_eq, ← show (4 * n + 2) + 0 = 4 * n + 2 from rfl, ← rot_half A h hh _ _ _ i hr 0 (by omega) j]
    congr 2
    exact Fin.ext (by simp)
  · show (grp3 x h (ix2 i j) : EReal) = _
    unfold grp3
    rw [slice1, hadM_eq, show 4 * n + 3 = (4 * n + 2) + 1 from rfl, ← rot_half A h hh _ _ _ i hr 1 (by omega) j]

/-! ## The quantiser -/

section Group

variable (v : FVec Ideal S1024x128 .f32) (r G : ℕ) (i : Fin 1024) (hv : ∀ j : Fin 128, (v (ix2 i j) : EReal) = rotAt A r (G * 128 + j.val))

include hv

theorem amaxCol_value (j : Fin 1) : (amaxCol v (ix2 i j) : EReal) = amaxAt A r G := by
  rw [amaxCol_apply]
  unfold amaxAt
  simp only [hv]

variable (hA : Finite A)

include hA

theorem scaleCol_value (j : Fin 1) : (scaleCol (amaxCol v) (ix2 i j) : EReal) = scaleR (amaxAt A r G) := by
  have := amax_range A hA r G
  rw [scaleCol_apply, amaxCol_value A v r G i hv, scaleK_eq_scaleR _ this.1 this.2]

theorem invCol_value (j : Fin 1) : (invCol (amaxCol v) (ix2 i j) : EReal) = invR (amaxAt A r G) := by
  have := amax_range A hA r G
  rw [invCol_apply, amaxCol_value A v r G i hv, invK_eq_invR _ this.1 this.2]

theorem codeOf_value (j : Fin 128) : (codeOf v (ix2 i j) : EReal) = codeAt A r (G * 128 + j.val) := by
  rw [codeOf_eq, codeV_apply, invCol_value A v r G i hv hA, hv]
  unfold codeAt
  rw [show (G * 128 + j.val) / 128 = G by omega]

theorem xaOf_value (j : Fin 128) : (xaOf v (ix2 i j) : EReal) = Cert.Quantiser.xaAt A r (G * 128 + j.val) := by
  rw [xaOf_eq, xaV_apply, scaleCol_value A v r G i hv hA, codeOf_value A v r G i hv hA]
  unfold Cert.Quantiser.xaAt
  rw [show (G * 128 + j.val) / 128 = G by omega]

end Group

variable (hA : Finite A)

include hx hh hA

theorem codesBlk_value (i : Fin 1024) (j : Fin 512) : (codesBlk x h (ix2 i j) : EReal) = codeAt A (1024 * p + i.val) (512 * n + j.val) := by
  show (codeOf (grp x h (j.val / 128)) (gidx i j.val) : EReal) = _
  rw [gidx_eq, codeOf_value A _ (1024 * p + i.val) (4 * n + j.val / 128) i (grp_value A p n x h hx hh _ (by omega) i) hA]
  congr 1
  simp only
  omega

theorem xaBlk_value (i : Fin 1024) (j : Fin 512) : (xaBlk x h (ix4 0 0 i j) : EReal) = Cert.Quantiser.xaAt A (1024 * p + i.val) (512 * n + j.val) := by
  show (xa4 (grp x h (j.val / 128)) (xidx i j.val) : EReal) = _
  unfold xa4
  rw [xidx_eq, cast4, xaOf_value A _ (1024 * p + i.val) (4 * n + j.val / 128) i (grp_value A p n x h hx hh _ (by omega) i) hA]
  congr 1
  simp only
  omega

/-- The four new columns are the scales of the four groups, the others stay. -/
theorem scaleBlk_value (hn : n < 16) (s : Vec Ideal S1024x64 .f32) (i : Fin 1024) (j : Fin 64) :
    (scaleBlk x h (BitVec.ofNat 32 n) s (ix2 i j) : EReal) =
      if j.val / 4 = n then scaleR (amaxAt A (1024 * p + i.val) j.val)
      else if n = 0 then Ideal.ofBits .f32 0#32 else s (ix2 i j) := by
  have hgrp := fun g hg => scaleCol_value A (grp x h g) (1024 * p + i.val) (4 * n + g) i (grp_value A p n x h hx hh g hg i) hA 0
  have h0 := hgrp 0 (by omega)
  have h1 := hgrp 1 (by omega)
  have h2 := hgrp 2 (by omega)
  have h3 := hgrp 3 (by omega)
  have hp : (k0_pay3 (BitVec.ofNat 32 n) (View.ld s (Rect.unit (s := S1024x64) ![0, 0] S1024x64.size inb_S1024x64_S1024x64_0_0)) (ix2 i j) : EReal)
      = if n = 0 then Ideal.ofBits .f32 0#32 else s (ix2 i j) := by
    have hz : Scalar.cmpi .eq (BitVec.ofNat 32 n) 0#32 = if n = 0 then 1#1 else 0#1 := by
      have : ∀ n : Fin 16, Scalar.cmpi .eq (BitVec.ofNat 32 n.val) 0#32 = if n.val = 0 then 1#1 else 0#1 := by decide +kernel
      exact this ⟨n, hn⟩
    pointwise [k0_pay3]
    rw [hz]
    by_cases e : n = 0 <;> simp [e, Scalar.select]
  have hk : ∀ (n : Fin 16) (j : Fin 64),
      (BitVec.ofNat 32 j.val = Scalar.addi (Scalar.addi (Scalar.muli (BitVec.ofNat 32 n.val) 4#32) 2#32) 1#32 ↔ j.val = 4 * n.val + 3)
      ∧ (BitVec.ofNat 32 j.val = Scalar.addi (Scalar.addi (Scalar.muli (BitVec.ofNat 32 n.val) 4#32) 2#32) 0#32 ↔ j.val = 4 * n.val + 2)
      ∧ (BitVec.ofNat 32 j.val = Scalar.addi (Scalar.addi (Scalar.muli (BitVec.ofNat 32 n.val) 4#32) 0#32) 1#32 ↔ j.val = 4 * n.val + 1)
      ∧ (BitVec.ofNat 32 j.val = Scalar.addi (Scalar.addi (Scalar.muli (BitVec.ofNat 32 n.val) 4#32) 0#32) 0#32 ↔ j.val = 4 * n.val + 0) := by decide +kernel
  obtain ⟨k3, k2, k1, k0⟩ := hk ⟨n, hn⟩ j
  simp only at k3 k2 k1 k0
  unfold scaleBlk
  simp only [scaleStep_eq, putV_apply]
  rw [hp]
  simp only [k3, k2, k1, k0]
  change (if j.val = 4 * n + 3 then (scaleCol (amaxCol (grp x h 3)) (ix2 i 0) : EReal) else if j.val = 4 * n + 2 then scaleCol (amaxCol (grp x h 2)) (ix2 i 0)
    else if j.val = 4 * n + 1 then scaleCol (amaxCol (grp x h 1)) (ix2 i 0) else if j.val = 4 * n + 0 then scaleCol (amaxCol (grp x h 0)) (ix2 i 0) else _) = _
  rw [h0, h1, h2, h3]
  by_cases e3 : j.val = 4 * n + 3
  · rw [if_pos e3, if_pos (by omega), e3]
  by_cases e2 : j.val = 4 * n + 2
  · rw [if_neg e3, if_pos e2, if_pos (by omega), e2]
  by_cases e1 : j.val = 4 * n + 1
  · rw [if_neg e3, if_neg e2, if_pos e1, if_pos (by omega), e1]
  by_cases e0 : j.val = 4 * n + 0
  · rw [if_neg e3, if_neg e2, if_neg e1, if_pos e0, if_pos (by omega), e0]
  rw [if_neg e3, if_neg e2, if_neg e1, if_neg e0, if_neg (show ¬j.val / 4 = n by omega)]

end Cert.KernelIdeal.Hand

end
-- ==== Proof.KernelValue.lean ====
module

public import proofs.«01_k».proof.Proof.KernelBlock
public import proofs.«01_k».proof.Proof.IdealData
public import Idealize.ShloMosaic.Lib.Pipeline.Covers

/-!
  The three results of the kernel as functions of its arguments.
-/

@[expose] public section

set_option maxRecDepth 16384

noncomputable section

namespace Cert.KernelIdeal.Hand

open Cert.KernelIdeal Cert.KernelIdeal.Gen Cert.Quantiser Idealize.ShloMosaic Idealize.ShloMosaic.TcCoe Idealize.ShloMosaic.Tactic
open Idealize.ShloMosaic.Pipeline (Dat)

variable (m : (ℓ : Loc nD τ sig) → Buf (Elt Ideal) ℓ) (c : Dev nD)

/-! ## The blocks of the arguments -/

theorem tokens_block (p n : ℕ) (hp : p < 16) (hn : n < 16) (i : Fin 1024) (j : Fin 512) :
    (blkX (V m c main_v16) p n (ix2 i j) : EReal) = xAt (m (c, main_arg0)) (1024 * p + i.val) (512 * n + j.val) := by
  have e : blkX (V m c main_v16) p n (ix2 i j) = V m c main_v16 (ix2 ⟨1024 * p + i.val, by omega⟩ ⟨512 * n + j.val, by omega⟩) := by
    unfold blkX
    refine congrArg _ (funext fun a => Fin.ext ?_)
    match a with
    | ⟨0, _⟩ => exact Nat.mod_eq_of_lt (show 1024 * p + i.val < 16384 by omega)
    | ⟨1, _⟩ => exact Nat.mod_eq_of_lt (show 512 * n + j.val < 8192 by omega)
  rw [e, tokens_in]

theorem weights_block (n k : ℕ) (hn : n < 29) (hk : k < 16) (l j : Fin 512) :
    (wRows (blkW (V m c main_arg1) n) k (ix2 l j) : EReal) = m (c, main_arg1) (ix2 ⟨512 * k + l.val, by omega⟩ ⟨512 * n + j.val, by omega⟩) := by
  rw [weights_in]
  unfold wRows blkW
  refine congrArg _ (funext fun a => Fin.ext ?_)
  match a with
  | ⟨0, _⟩ => exact Nat.mod_eq_of_lt (show 512 * k + l.val < 8192 by omega)
  | ⟨1, _⟩ => exact Nat.mod_eq_of_lt (show 512 * n + j.val < 14848 by omega)

theorem scales_block (n : ℕ) (hn : n < 29) (j : Fin 512) :
    (blkS (V m c main_v17) n (ix2 0 j) : EReal) = m (c, main_arg2) (ix1 ⟨512 * n + j.val, by omega⟩) := by
  have e : blkS (V m c main_v17) n (ix2 0 j) = V m c main_v17 (ix2 0 ⟨512 * n + j.val, by omega⟩) := by
    unfold blkS
    refine congrArg _ (funext fun a => Fin.ext ?_)
    match a with
    | ⟨0, _⟩ => rfl
    | ⟨1, _⟩ => exact Nat.mod_eq_of_lt (show 512 * n + j.val < 14848 by omega)
  rw [e, scales_in]

theorem point_mod (q : ℕ) (hq : q < 493) : (point q).val = q := Nat.mod_eq_of_lt hq

theorem iblk0_point (p n : ℕ) (hp : p < 16) (hn : n < 16) : (iblk m c 0 (point (29 * p + n)) : Vec Ideal S1024x512 .bf16) = blkX (V m c main_v16) p n := by
  rw [iblk0_eq, point_mod _ (by omega), show min ((29 * p + n) / 29) 15 = p by omega,
    if_pos (show (29 * p + n) / 29 < 16 by omega), show min ((29 * p + n) % 29) 15 = n by omega]

/-! ## The product -/

theorem accTo_apply (C : ℕ → Vec Ideal S1x1x1024x512 .bf16) (W : ℕ → Vec Ideal S512x512 .fp8e4m3) (i : Fin 1024) (j : Fin 512) (n : ℕ) :
    (accTo C W n (ix2 i j) : EReal) = ∑ k ∈ Finset.range (n + 1), ∑ l : Fin 512, (C k (ix4 0 0 i l) * W k (ix2 l j) : EReal) := by
  induction n with
  | zero =>
    rw [Finset.sum_range_one]
    exact chunkDot_apply _ _ i j
  | succ n ih =>
    rw [Finset.sum_range_succ, ← ih, ← chunkDot_apply]
    rfl

variable (hA : Finite (m (c, main_arg0)))

include hA

theorem xaAt_value (p k : ℕ) (hp : p < 16) (hk : k < 16) (i : Fin 1024) (l : Fin 512) :
    (xaAt m c (29 * p + k) (ix4 0 0 i l) : EReal) = Cert.Quantiser.xaAt (m (c, main_arg0)) (1024 * p + i.val) (512 * k + l.val) := by
  unfold xaAt
  rw [iblk0_point m c p k hp hk, iblk1_eq,
    xaBlk_value _ p k _ _ (tokens_block m c p k hp hk) (hadamard_in m c) hA]

theorem yAt_value (t : Fin cfg0.N) (ht : 29 ≤ t.val) (i : Fin 1024) (j : Fin 512) :
    (yAt m c t (ix2 i j) : EReal) = yOf (m (c, main_arg0)) (m (c, main_arg1)) (m (c, main_arg2))
      (ix2 ⟨1024 * (t.val / 29 - 1) + i.val, by have := t.isLt; change t.val < 493 at this; omega⟩ ⟨512 * (t.val % 29) + j.val, by omega⟩) := by
  have hlt : t.val < 493 := t.isLt
  unfold yAt
  rw [iblk2_eq m c t ht, iblk3_eq m c t ht, yBlk_eq, outV_apply, scales_block m c _ (by omega), accTo_apply]
  show _ = (∑ q : Fin 8192, Cert.Quantiser.xaAt (m (c, main_arg0)) (1024 * (t.val / 29 - 1) + i.val) q.val
    * m (c, main_arg1) (ix2 q ⟨512 * (t.val % 29) + j.val, by omega⟩)) * m (c, main_arg2) (ix1 ⟨512 * (t.val % 29) + j.val, by omega⟩)
  congr 1
  rw [Finset.sum_range]
  refine (Finset.sum_congr rfl fun k _ => Finset.sum_congr rfl fun l _ => ?_).trans (Fin.sum_mul_add_fin (S := 16) (n := 512) (L := 8192) (fun q : Fin 8192 =>
    (Cert.Quantiser.xaAt (m (c, main_arg0)) (1024 * (t.val / 29 - 1) + i.val) q.val
    * m (c, main_arg1) (ix2 q ⟨512 * (t.val % 29) + j.val, by omega⟩) : EReal)))
  rw [xaAt_value m c hA _ _ (by omega) k.isLt, weights_block m c _ _ (by omega) k.isLt]
  simp only [Nat.mul_comm 512 k.val]

/-! ## The scales -/

theorem scaleAt_value (p : ℕ) (hp : p < 16) (i : Fin 1024) : ∀ n, 29 * p + n < 493 → (n < 29 ∨ p = 15) → ∀ j : Fin 64, j.val / 4 ≤ n →
    (scaleAt m c (29 * p + n) (ix2 i j) : EReal) = scaleR (amaxAt (m (c, main_arg0)) (1024 * p + i.val) j.val) := by
  have hstep : ∀ n, n < 16 → ∀ (s : Vec Ideal S1024x64 .f32) (j : Fin 64), (scaleAcc m c (29 * p + n) s (ix2 i j) : EReal) =
      if j.val / 4 = n then scaleR (amaxAt (m (c, main_arg0)) (1024 * p + i.val) j.val)
      else if n = 0 then Ideal.ofBits .f32 0#32 else s (ix2 i j) := by
    intro n hn s j
    have hq := point_mod (29 * p + n) (by omega)
    unfold scaleAcc
    rw [if_pos ((cond1_point _).mpr (by rw [hq]; omega)), (coords_eq (point (29 * p + n))).2, hq, show (29 * p + n) % 29 = n by omega,
      iblk0_point m c p n hp hn, iblk1_eq, scaleBlk_value _ p n _ _ (tokens_block m c p n hp hn) (hadamard_in m c) hA hn]
  intro n
  induction n with
  | zero =>
    intro _ _ j hj
    have e : ∃ s, scaleAt m c (29 * p + 0) = scaleAcc m c (29 * p + 0) s := by
      cases 29 * p + 0 with
      | zero => exact ⟨_, rfl⟩
      | succ q => exact ⟨_, rfl⟩
    obtain ⟨s, e⟩ := e
    rw [e, hstep 0 (by omega), if_pos (by omega)]
  | succ n ih =>
    intro hq hor j hj
    rw [show scaleAt m c (29 * p + (n + 1)) = scaleAcc m c (29 * p + (n + 1)) (scaleAt m c (29 * p + n)) from rfl]
    by_cases hn : n + 1 < 16
    · rw [hstep (n + 1) hn]
      by_cases h1 : j.val / 4 = n + 1
      · rw [if_pos h1]
      · rw [if_neg h1, if_neg (Nat.succ_ne_zero n)]
        exact ih (by omega) (by omega) j (by omega)
    · unfold scaleAcc
      rw [if_neg]
      · exact ih (by omega) (by omega) j (by omega)
      · rw [cond1_point, point_mod _ hq]
        omega

/-! ## The results -/

theorem arr4 : (dats m 0 c).arrAt 4 cfg0.N = yOf (m (c, main_arg0)) (m (c, main_arg1)) (m (c, main_arg2)) := by
  refine (dats m 0 c).arrAt_eq_of_covers 4 _ ((cfg0.win 4).covers_of_index_surj rfl (by decide) fun β => ?_) fun t hf y => ?_
  · have b0 : (β 0).val < 16 := (β 0).isLt
    have b1 : (β 1).val < 29 := (β 1).isLt
    refine ⟨⟨29 * ((β 0).val + 1) + (β 1).val, show _ < 493 by omega⟩, fun a => ?_⟩
    change win0_4.index _ a = _
    rw [index4_eq]
    match a with
    | ⟨0, _⟩ =>
      show (29 * ((β 0).val + 1) + (β 1).val) / 29 - 1 = (β 0).val
      omega
    | ⟨1, _⟩ =>
      show (if 29 ≤ 29 * ((β 0).val + 1) + (β 1).val then (29 * ((β 0).val + 1) + (β 1).val) % 29 else 0) = (β 1).val
      rw [if_pos (by omega)]
      omega
  have ht : 29 ≤ t.val := (flush4_iff t).mp hf
  blk_simp
  rw [after_4]
  obtain ⟨i, j, rfl⟩ : ∃ (i : Fin 1024) (j : Fin 512), y = ix2 i j := ⟨y 0, y 1, eq_ix2 y⟩
  refine (yAt_value m c hA t ht i j).trans (congrArg _ (funext fun a => Fin.ext ?_))
  match a with
  | ⟨0, _⟩ =>
    show 1024 * (t.val / 29 - 1) + i.val = ((win0_4.blk t).view.emb (ix2 i j) 0).val
    blk_simp [index4_eq]
    simp only [Matrix.cons_val_zero]
    omega
  | ⟨1, _⟩ =>
    show 512 * (t.val % 29) + j.val = ((win0_4.blk t).view.emb (ix2 i j) 1).val
    blk_simp [index4_eq]
    simp only [Matrix.cons_val_one, if_pos ht]
    omega

theorem arr5 : (dats m 0 c).arrAt 5 cfg0.N = codesOf (m (c, main_arg0)) := by
  refine (dats m 0 c).arrAt_eq_of_covers 5 _ ((cfg0.win 5).covers_of_index_surj rfl (by decide) fun β => ?_) fun t hf y => ?_
  · have b0 : (β 0).val < 16 := (β 0).isLt
    have b1 : (β 1).val < 16 := (β 1).isLt
    refine ⟨⟨29 * (β 0).val + (β 1).val, show _ < 493 by omega⟩, fun a => ?_⟩
    change win0_5.index _ a = _
    rw [index5_eq]
    match a with
    | ⟨0, _⟩ =>
      show min ((29 * (β 0).val + (β 1).val) / 29) 15 = (β 0).val
      omega
    | ⟨1, _⟩ =>
      show (if (29 * (β 0).val + (β 1).val) / 29 < 16 then min ((29 * (β 0).val + (β 1).val) % 29) 15 else 15) = (β 1).val
      rw [if_pos (by omega)]
      omega
  blk_simp
  rw [after_5]
  obtain ⟨i, j, rfl⟩ : ∃ (i : Fin 1024) (j : Fin 512), y = ix2 i j := ⟨y 0, y 1, eq_ix2 y⟩
  have hp : min (t.val / 29) 15 < 16 := by omega
  have hn : (if t.val / 29 < 16 then min (t.val % 29) 15 else 15) < 16 := by split <;> omega
  rw [iblk0_eq, iblk1_eq, codesBlk_value _ _ _ _ _ (tokens_block m c _ _ hp hn) (hadamard_in m c) hA]
  refine congrArg₂ (codeAt (m (c, main_arg0))) ?_ ?_
  · show _ = ((win0_5.blk t).view.emb (ix2 i j) 0).val
    blk_simp [index5_eq]
    simp only [Matrix.cons_val_zero]
    omega
  · show _ = ((win0_5.blk t).view.emb (ix2 i j) 1).val
    blk_simp [index5_eq]
    simp only [Matrix.cons_val_one]
    omega

theorem arr6 : (dats m 0 c).arrAt 6 cfg0.N = scalesOf (m (c, main_arg0)) := by
  refine (dats m 0 c).arrAt_eq_of_covers 6 _ ((cfg0.win 6).covers_of_index_surj rfl (by decide) fun β => ?_) fun t hf y => ?_
  · have b0 : (β 0).val < 16 := (β 0).isLt
    have b1 : (β 1).val < 1 := (β 1).isLt
    refine ⟨⟨29 * (β 0).val, show _ < 493 by omega⟩, fun a => ?_⟩
    change win0_6.index _ a = _
    rw [index6_eq]
    match a with
    | ⟨0, _⟩ =>
      show min (29 * (β 0).val / 29) 15 = (β 0).val
      omega
    | ⟨1, _⟩ =>
      show 0 = (β 1).val
      omega
  have hlt : t.val < 493 := t.isLt
  have ht := (flush6_iff t).mp hf
  blk_simp
  rw [after_6]
  obtain ⟨i, j, rfl⟩ : ∃ (i : Fin 1024) (j : Fin 64), y = ix2 i j := ⟨y 0, y 1, eq_ix2 y⟩
  have e := scaleAt_value m c hA (min (t.val / 29) 15) (by omega) i (t.val - 29 * min (t.val / 29) 15) (by omega) (by omega) j (by omega)
  rw [show 29 * min (t.val / 29) 15 + (t.val - 29 * min (t.val / 29) 15) = t.val by omega] at e
  refine e.trans (congrArg scaleR (congrArg₂ (amaxAt (m (c, main_arg0))) ?_ ?_))
  · show _ = ((win0_6.blk t).view.emb (ix2 i j) 0).val
    blk_simp [index6_eq]
    simp only [Matrix.cons_val_zero]
    omega
  · show _ = ((win0_6.blk t).view.emb (ix2 i j) 1).val
    blk_simp [index6_eq]

end Cert.KernelIdeal.Hand

end
-- ==== Proof.RefRun.lean ====
module

public import proofs.«01_k».proof.Proof.Gen.ReferenceIdeal.Frame
public import Idealize.ShloMosaic.Lib.Pipeline.Value

/-!
  The run of the reference with its three results named.
-/

@[expose] public section

noncomputable section

namespace Cert.ReferenceIdeal.Hand

open Cert.ReferenceIdeal Cert.ReferenceIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- After the frame run, output window 4's array is `(dats m 0 c).arrAt 4 N`. -/
theorem post4 (r : PUnit × MemSt nD τ sig (Elt F)) (h : Pipeline.FramePost cfgs (dats m) 0 (V m) r) (c : Dev nD) :
    r.2.mem ((c : Thread nD τ).loc main_v12_0) = (dats m 0 c).arrAt 4 cfg0.N :=
  (h c).1 4

/-- After the frame run, output window 5's array is `(dats m 0 c).arrAt 5 N`. -/
theorem post5 (r : PUnit × MemSt nD τ sig (Elt F)) (h : Pipeline.FramePost cfgs (dats m) 0 (V m) r) (c : Dev nD) :
    r.2.mem ((c : Thread nD τ).loc main_v12_1) = (dats m 0 c).arrAt 5 cfg0.N :=
  (h c).1 5

/-- After the frame run, output window 6's array is `(dats m 0 c).arrAt 6 N`. -/
theorem post6 (r : PUnit × MemSt nD τ sig (Elt F)) (h : Pipeline.FramePost cfgs (dats m) 0 (V m) r) (c : Dev nD) :
    r.2.mem ((c : Thread nD τ).loc main_v12_2) = (dats m 0 c).arrAt 6 cfg0.N :=
  (h c).1 6

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: input window 2 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 2).trans (((dats m 0 c).arrAt_in 2 rfl _).trans ((A_eq m c 2).trans (V_main_arg1 m c)))

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- The frame run with each output array after the run NAMED (`(dats m 0 c).arrAt w N`),
    the arguments unchanged. -/
theorem run : θ_run defs (onTc (τ := τ) (main (F := F))) ⟨m, fun _ => 0, ρ⟩ fun r => ∀ c : Dev nD,
      r.2.mem ((c : Thread nD τ).loc main_v12_0) = (dats m 0 c).arrAt 4 cfg0.N
      ∧ r.2.mem ((c : Thread nD τ).loc main_v12_1) = (dats m 0 c).arrAt 5 cfg0.N
      ∧ r.2.mem ((c : Thread nD τ).loc main_v12_2) = (dats m 0 c).arrAt 6 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨post4 m r h c,
      post5 m r h c,
      post6 m r h c,
      kept_main_arg0 m r h c,
      kept_main_arg1 m r h c,
      kept_main_arg2 m r h c⟩)
    (run_main m ρ)

end Cert.ReferenceIdeal.Hand

end
-- ==== Proof.RefPayload.lean ====
module

public import proofs.«01_k».proof.Proof.RefRun
public import proofs.«01_k».proof.Proof.Spec
public import Idealize.ShloMosaic.Lib.StableHlo.ReadAt

/-!
  What the reference computes, element by element, from the arrays that it is handed.
-/

@[expose] public section

set_option maxRecDepth 16384

noncomputable section

namespace Cert.ReferenceIdeal.Hand

open Cert.ReferenceIdeal Cert.ReferenceIdeal.Gen Cert.Quantiser Idealize.ShloMosaic Idealize.ShloMosaic.TcCoe

/-! ## The steps of the quantiser, each over the value before it -/

/-- The greatest of each row. -/
def maxV (B : FVec Ideal S1048576x128 .f32) : FVec Ideal S1048576x1 .f32 :=
  shapeCast S1048576x1 (multiReduction .maximumf [1] S1048576 B 0xFF800000#32 reduces_S1048576x128_S1048576 (.inl rfl) rfl) shapeCasts_S1048576_S1048576x1

/-- The largest absolute value of each row, over 448. -/
def amaxV (R : FVec Ideal S1048576x128 .f32) : FVec Ideal S1048576x1 .f32 :=
  mulf (maxV (absf R)) (broadcast S1048576x1 (Scalar.ofBits .f32 0x3B124925#32))

/-- The powers of two. -/
def powV : FVec Ideal S1x254 .f32 := exp2 (sitofp .f32 (subi (iota .tc S1x254 32 [1] iota_S1x254_d1_w32) (broadcast S1x254 125#32)))

/-- The powers of two above `a`, the others replaced by infinity. -/
def aboveV (P : FVec Ideal S1x254 .f32) (a : FVec Ideal S1048576x1 .f32) : FVec Ideal S1048576x254 .f32 :=
  select (cmpf .olt (broadcastTo S1048576x254 a broadcasts_S1048576x1_S1048576x254) (broadcastTo S1048576x254 P broadcasts_S1x254_S1048576x254))
    (broadcastTo S1048576x254 (shapeCast S1x254 P shapeCasts_S1x254_S1x254) broadcasts_S1x254_S1048576x254)
    (broadcast S1048576x254 (Scalar.ofBits .f32 0x7F800000#32))

/-- The least of each row. -/
def leastV (B : FVec Ideal S1048576x254 .f32) : FVec Ideal S1048576x1 .f32 :=
  shapeCast S1048576x1 (multiReduction .minimumf [1] S1048576 B 0x7F800000#32 reduces_S1048576x254_S1048576 (.inl rfl) rfl) shapeCasts_S1048576_S1048576x1

/-- The scale: `l`, or 1 where `a` is below the least normal float. -/
def scaleV (a l : FVec Ideal S1048576x1 .f32) : FVec Ideal S1048576x1 .f32 :=
  select (cmpf .olt a (broadcast S1048576x1 (Scalar.ofBits .f32 0x00800000#32))) (broadcast S1048576x1 (Scalar.ofBits .f32 0x3F800000#32)) l

/-- The codes. -/
def codeV (R : FVec Ideal S1048576x128 .f32) (s : FVec Ideal S1048576x1 .f32) : FVec Ideal S1048576x128 .fp8e4m3 :=
  truncf .fp8e4m3 (minimumf (broadcast S1048576x128 (Scalar.ofBits .f32 0x43E00000#32)) (maximumf (broadcast S1048576x128 (Scalar.ofBits .f32 0xC3E00000#32))
    (mulf R (broadcastTo S1048576x128 (divf (broadcast S1048576x1 (Scalar.ofBits .f32 0x3F800000#32)) s) broadcasts_S1048576x1_S1048576x128)))) bitsLt_fp8e4m3_f32

theorem pay3_eq (X : Vec Ideal S1048576x128 .bf16) (H : Vec Ideal S128x128 .f32) :
    k0_pay3 X H = scaleV (amaxV (k0_pay2 X H)) (leastV (aboveV powV (amaxV (k0_pay2 X H)))) := rfl
theorem pay4_eq (X : Vec Ideal S1048576x128 .bf16) (H : Vec Ideal S128x128 .f32) : k0_pay4 X H = codeV (k0_pay2 X H) (k0_pay3 X H) := rfl

theorem maxV_apply (B : FVec Ideal S1048576x128 .f32) (i : Fin 1048576) (j : Fin 1) :
    maxV B (ix2 i j) = (Finset.univ : Finset (Fin 128)).fold max (Ideal.ofBits .f32 0xFF800000#32) (fun k => B (ix2 i k)) := by
  pointwise [maxV]

theorem mulf_at (a b : FVec Ideal S1048576x1 .f32) (i : S1048576x1.Idx) : mulf a b i = (a i * b i : EReal) := rfl
theorem absf_at (a : FVec Ideal S1048576x128 .f32) (i : S1048576x128.Idx) : absf a i = (max (a i) (-a i) : EReal) := rfl
theorem maxInv_at (i : S1048576x1.Idx) : (broadcast S1048576x1 (Scalar.ofBits (F := Ideal) .f32 0x3B124925#32) : FVec Ideal S1048576x1 .f32) i = maxInv := rfl

theorem amaxV_apply (R : FVec Ideal S1048576x128 .f32) (i : Fin 1048576) (j : Fin 1) :
    amaxV R (ix2 i j) = (Finset.univ : Finset (Fin 128)).fold max (Ideal.ofBits .f32 0xFF800000#32) (fun k => max (R (ix2 i k)) (-R (ix2 i k))) * maxInv := by
  unfold amaxV
  rw [mulf_at, maxV_apply, maxInv_at]
  simp only [absf_at]

theorem powV_apply (i : Fin 1) (k : Fin 254) : powV (ix2 i k) = pow2 k.val := by
  pointwise [powV]
  have e : ∀ k : Fin 254, (IntOp.subi (BitVec.ofNat 32 k.val) 125#32).toInt = (k.val : ℤ) - 125 := by decide +kernel
  show Ideal.exp2 (((IntOp.subi (BitVec.ofNat 32 k.val) 125#32).toInt : ℝ) : EReal) = _
  rw [e k]
  rfl

theorem aboveV_apply (P : FVec Ideal S1x254 .f32) (a : FVec Ideal S1048576x1 .f32) (i : Fin 1048576) (k : Fin 254) :
    aboveV P a (ix2 i k) = if a (ix2 i 0) < P (ix2 0 k) then P (ix2 0 k) else Ideal.ofBits .f32 0x7F800000#32 := by
  pointwise [aboveV]

theorem leastV_apply (B : FVec Ideal S1048576x254 .f32) (i : Fin 1048576) (j : Fin 1) :
    leastV B (ix2 i j) = (Finset.univ : Finset (Fin 254)).fold min (Ideal.ofBits .f32 0x7F800000#32) (fun k => B (ix2 i k)) := by
  pointwise [leastV]

theorem scaleV_apply (a l : FVec Ideal S1048576x1 .f32) (i : Fin 1048576) (j : Fin 1) :
    scaleV a l (ix2 i j) = if a (ix2 i j) < Ideal.ofBits .f32 0x00800000#32 then 1 else l (ix2 i j) := by
  pointwise [scaleV]

theorem codeV_apply (R : FVec Ideal S1048576x128 .f32) (s : FVec Ideal S1048576x1 .f32) (i : Fin 1048576) (j : Fin 128) :
    codeV R s (ix2 i j) = min (Ideal.ofBits .f32 0x43E00000#32) (max (Ideal.ofBits .f32 0xC3E00000#32) (R (ix2 i j) * Ideal.div 1 (s (ix2 i 0)))) := by
  pointwise [codeV]

theorem pay2_apply (X : Vec Ideal S1048576x128 .bf16) (H : Vec Ideal S128x128 .f32) (i : Fin 1048576) (j : Fin 128) :
    k0_pay2 X H (ix2 i j) = (∑ x : Fin 128, X (ix2 i x) * H (ix2 x j) : EReal) := by
  pointwise [k0_pay2]

theorem pay1_apply (s : FVec Ideal S1048576x1 .f32) (C : FVec Ideal S1048576x128 .fp8e4m3) (W : Vec Ideal S8192x14848 .fp8e4m3)
    (S : Vec Ideal S1x14848 .f32) (i : Fin 16384) (j : Fin 14848) :
    k0_pay1 s C W S (ix2 i j)
      = (∑ x : Fin 8192, C (ix2 ⟨i.val * 64 + x.val / 128, by omega⟩ ⟨x.val % 128, by omega⟩) * s (ix2 ⟨i.val * 64 + x.val / 128, by omega⟩ 0) * W (ix2 x j))
        * (S (ix2 0 j) : EReal) := by
  pointwise [k0_pay1]

theorem cast_codes (C : FVec Ideal S1048576x128 .fp8e4m3) (i : Fin 16384) (j : Fin 8192) :
    shapeCast S16384x8192 C shapeCasts_S1048576x128_S16384x8192 (ix2 i j) = C (ix2 ⟨i.val * 64 + j.val / 128, by omega⟩ ⟨j.val % 128, by omega⟩) := by
  pointwise

theorem cast_scale (s : FVec Ideal S1048576x1 .f32) (i : Fin 16384) (j : Fin 64) :
    shapeCast S16384x64 s shapeCasts_S1048576x1_S16384x64 (ix2 i j) = s (ix2 ⟨i.val * 64 + j.val, by omega⟩ 0) := by
  pointwise

end Cert.ReferenceIdeal.Hand

end
-- ==== Proof.RefHost.lean ====
module

public import proofs.«01_k».proof.Proof.RefRun
public import proofs.«01_k».proof.Proof.Spec
public import Idealize.ShloMosaic.Lib.StableHlo.ReadAt

/-!
  The arrays that the reference's kernel is handed, element by element.
-/

@[expose] public section

set_option maxRecDepth 16384

noncomputable section

namespace Cert.ReferenceIdeal.Hand

open Cert.ReferenceIdeal Cert.ReferenceIdeal.Gen Cert.Quantiser Idealize.ShloMosaic Idealize.ShloMosaic.TcCoe

variable (m : (ℓ : Loc nD τ sig) → Buf (Elt Ideal) ℓ) (c : Dev nD)

theorem lit0_base (a b : Fin 2) : Ideal.ofBits .f32 (lit0 (S2x2.rowMajor (ix2 a b))) = base a.val b.val := by
  have e : lit0 (S2x2.rowMajor (ix2 a b)) = if a.val = 1 ∧ b.val = 1 then 0xBF800000#32 else 0x3F800000#32 := by
    revert a b; decide +kernel
  rw [e]
  unfold base
  split_ifs
  · exact ofBits_neg_one
  · exact Ideal.ofBits_one_f32

theorem scales_in (i : Fin 1) (j : Fin 14848) : (V m c main_v11 (ix2 i j) : EReal) = m (c, main_arg2) (ix1 j) := by
  unfold V
  simp only [hostOps0, hostOps0_1, hostOps0_2, hostOps0_3, hostOps0_4, hostOps0_5, hostOps0_6, hostOps0_7, hostOps0_8, List.flatten_cons, List.flatten_nil, List.append_nil, List.cons_append, List.nil_append]
  after_reads_at

theorem tokens_in (i : Fin 1048576) (j : Fin 128) : (V m c main_v0 (ix2 i j) : EReal) = xAt (m (c, main_arg0)) (i.val / 64) (i.val % 64 * 128 + j.val) := by
  unfold V
  simp only [hostOps0, hostOps0_1, hostOps0_2, hostOps0_3, hostOps0_4, hostOps0_5, hostOps0_6, hostOps0_7, hostOps0_8, List.flatten_cons, List.flatten_nil, List.append_nil, List.cons_append, List.nil_append]
  after_reads_at
  unfold xAt
  refine congrArg _ ?_
  congr 1 <;> exact Fin.ext (by simp only; omega)

theorem hadamard_in (i j : Fin 128) : (V m c main_v10 (ix2 i j) : EReal) = had i.val j.val * hadScale := by
  unfold V
  simp only [hostOps0, hostOps0_1, hostOps0_2, hostOps0_3, hostOps0_4, hostOps0_5, hostOps0_6, hostOps0_7, hostOps0_8, List.flatten_cons, List.flatten_nil, List.append_nil, List.cons_append, List.nil_append]
  after_reads_at
  simp only [lit0_base]
  rfl

end Cert.ReferenceIdeal.Hand

end
-- ==== Proof.RefValue.lean ====
module

public import proofs.«01_k».proof.Proof.RefPayload
public import proofs.«01_k».proof.Proof.RefHost
public import Idealize.ShloMosaic.Lib.Pipeline.ValueKit

/-!
  The three results of the reference as functions of its arguments.
-/

@[expose] public section

set_option maxRecDepth 16384

noncomputable section

namespace Cert.ReferenceIdeal.Hand

open Cert.ReferenceIdeal Cert.ReferenceIdeal.Gen Cert.Quantiser Idealize.ShloMosaic Idealize.ShloMosaic.TcCoe Idealize.ShloMosaic.Tactic
open Idealize.ShloMosaic.Pipeline (Dat)

section Payload

variable (A : (⟨3, ![8, 2048, 8192]⟩ : Shape).Idx → EReal) (X : Vec Ideal S1048576x128 .bf16) (H : Vec Ideal S128x128 .f32)
  (hX : ∀ (i : Fin 1048576) (j : Fin 128), (X (ix2 i j) : EReal) = xAt A (i.val / 64) (i.val % 64 * 128 + j.val))
  (hH : ∀ i j : Fin 128, (H (ix2 i j) : EReal) = had i.val j.val * hadScale)

include hX hH

theorem rot_value (i : Fin 1048576) (j : Fin 128) : (k0_pay2 X H (ix2 i j) : EReal) = rotAt A (i.val / 64) (i.val % 64 * 128 + j.val) := by
  rw [pay2_apply]
  unfold rotAt
  refine Finset.sum_congr rfl fun k _ => ?_
  rw [hX, hH, show (i.val % 64 * 128 + j.val) / 128 = i.val % 64 by omega, show (i.val % 64 * 128 + j.val) % 128 = j.val by omega]

theorem amax_value (i : Fin 1048576) (j : Fin 1) : (amaxV (k0_pay2 X H) (ix2 i j) : EReal) = amaxAt A (i.val / 64) (i.val % 64) := by
  rw [amaxV_apply]
  unfold amaxAt
  simp only [rot_value A X H hX hH]

theorem scale_value (i : Fin 1048576) (j : Fin 1) : (k0_pay3 X H (ix2 i j) : EReal) = scaleR (amaxAt A (i.val / 64) (i.val % 64)) := by
  rw [pay3_eq, scaleV_apply, leastV_apply]
  simp only [aboveV_apply, powV_apply, amax_value A X H hX hH]
  unfold scaleR
  have e1 : Ideal.ofBits .f32 0x00800000#32 = floatAt 1 := rfl
  have e2 : Ideal.ofBits .f32 0x7F800000#32 = ⊤ := floatAt_top
  rw [e1, e2]

theorem code_value (i : Fin 1048576) (j : Fin 128) : (k0_pay4 X H (ix2 i j) : EReal) = codeAt A (i.val / 64) (i.val % 64 * 128 + j.val) := by
  rw [pay4_eq, codeV_apply, rot_value A X H hX hH, scale_value A X H hX hH]
  unfold codeAt invR
  rw [show (i.val % 64 * 128 + j.val) / 128 = i.val % 64 by omega]

theorem codes_value : k0_pay5 X H = codesOf A := by
  funext y
  obtain ⟨i, j, rfl⟩ : ∃ (i : Fin 16384) (j : Fin 8192), y = ix2 i j := ⟨y 0, y 1, eq_ix2 y⟩
  unfold k0_pay5
  rw [cast_codes, code_value A X H hX hH]
  show codeAt A ((i.val * 64 + j.val / 128) / 64) ((i.val * 64 + j.val / 128) % 64 * 128 + j.val % 128) = codeAt A i.val j.val
  rw [show (i.val * 64 + j.val / 128) / 64 = i.val by omega, show (i.val * 64 + j.val / 128) % 64 * 128 + j.val % 128 = j.val by omega]

theorem scales_value : k0_pay6 X H = scalesOf A := by
  funext y
  obtain ⟨i, j, rfl⟩ : ∃ (i : Fin 16384) (j : Fin 64), y = ix2 i j := ⟨y 0, y 1, eq_ix2 y⟩
  unfold k0_pay6
  rw [cast_scale, scale_value A X H hX hH]
  show scaleR (amaxAt A ((i.val * 64 + j.val) / 64) ((i.val * 64 + j.val) % 64)) = scaleR (amaxAt A i.val j.val)
  rw [show (i.val * 64 + j.val) / 64 = i.val by omega, show (i.val * 64 + j.val) % 64 = j.val by omega]

theorem y_value (W : Vec Ideal S8192x14848 .fp8e4m3) (Sc : Vec Ideal S1x14848 .f32) (S : (⟨1, ![14848]⟩ : Shape).Idx → EReal)
    (hS : ∀ (i : Fin 1) (j : Fin 14848), (Sc (ix2 i j) : EReal) = S (ix1 j)) :
    k0_pay1 (k0_pay3 X H) (k0_pay4 X H) W Sc = yOf A W S := by
  funext y
  obtain ⟨i, j, rfl⟩ : ∃ (i : Fin 16384) (j : Fin 14848), y = ix2 i j := ⟨y 0, y 1, eq_ix2 y⟩
  rw [pay1_apply, hS]
  show _ = (∑ q : Fin 8192, xaAt A i.val q.val * W (ix2 q j)) * S (ix1 j)
  unfold xaAt
  congr 1
  refine Finset.sum_congr rfl fun q _ => ?_
  rw [code_value A X H hX hH, scale_value A X H hX hH]
  simp only
  rw [show (i.val * 64 + q.val / 128) / 64 = i.val by omega, show (i.val * 64 + q.val / 128) % 64 = q.val / 128 by omega,
    show q.val / 128 * 128 + q.val % 128 = q.val by omega]

end Payload

variable (m : (ℓ : Loc nD τ sig) → Buf (Elt Ideal) ℓ) (c : Dev nD)

theorem index0_eq : ∀ t : Fin grid0.N, win0_0.index t = ![0, 0] := by decide +kernel
theorem index1_eq : ∀ t : Fin grid0.N, win0_1.index t = ![0, 0] := by decide +kernel
theorem index2_eq : ∀ t : Fin grid0.N, win0_2.index t = ![0, 0] := by decide +kernel
theorem index3_eq : ∀ t : Fin grid0.N, win0_3.index t = ![0, 0] := by decide +kernel
theorem index4_eq : ∀ t : Fin grid0.N, win0_4.index t = ![0, 0] := by decide +kernel
theorem index5_eq : ∀ t : Fin grid0.N, win0_5.index t = ![0, 0] := by decide +kernel
theorem index6_eq : ∀ t : Fin grid0.N, win0_6.index t = ![0, 0] := by decide +kernel

theorem iblk0_whole (t : Fin cfg0.N) : (iblk m c 0 t : Vec Ideal S1048576x128 .bf16) = V m c main_v0 := by
  funext y
  show V m c main_v0 ((win0_0.blk _).view.emb y) = _
  refine congrArg _ (funext fun a => Fin.ext ?_)
  match a with
  | ⟨0, _⟩ =>
    show (((win0_0.blk _).view.emb y) 0).val = (y 0).val
    blk_simp [index0_eq]
  | ⟨1, _⟩ =>
    show (((win0_0.blk _).view.emb y) 1).val = (y 1).val
    blk_simp [index0_eq]

theorem iblk1_whole (t : Fin cfg0.N) : (iblk m c 1 t : Vec Ideal S128x128 .f32) = V m c main_v10 := by
  funext y
  show V m c main_v10 ((win0_1.blk _).view.emb y) = _
  refine congrArg _ (funext fun a => Fin.ext ?_)
  match a with
  | ⟨0, _⟩ =>
    show (((win0_1.blk _).view.emb y) 0).val = (y 0).val
    blk_simp [index1_eq]
  | ⟨1, _⟩ =>
    show (((win0_1.blk _).view.emb y) 1).val = (y 1).val
    blk_simp [index1_eq]

theorem iblk2_whole (t : Fin cfg0.N) : (iblk m c 2 t : Vec Ideal S8192x14848 .fp8e4m3) = V m c main_arg1 := by
  funext y
  show V m c main_arg1 ((win0_2.blk _).view.emb y) = _
  refine congrArg _ (funext fun a => Fin.ext ?_)
  match a with
  | ⟨0, _⟩ =>
    show (((win0_2.blk _).view.emb y) 0).val = (y 0).val
    blk_simp [index2_eq]
  | ⟨1, _⟩ =>
    show (((win0_2.blk _).view.emb y) 1).val = (y 1).val
    blk_simp [index2_eq]

theorem iblk3_whole (t : Fin cfg0.N) : (iblk m c 3 t : Vec Ideal S1x14848 .f32) = V m c main_v11 := by
  funext y
  show V m c main_v11 ((win0_3.blk _).view.emb y) = _
  refine congrArg _ (funext fun a => Fin.ext ?_)
  match a with
  | ⟨0, _⟩ =>
    show (((win0_3.blk _).view.emb y) 0).val = (y 0).val
    blk_simp [index3_eq]
  | ⟨1, _⟩ =>
    show (((win0_3.blk _).view.emb y) 1).val = (y 1).val
    blk_simp [index3_eq]

theorem weights_in : V m c main_arg1 = m (c, main_arg1) := by
  unfold V
  simp only [hostOps0, hostOps0_1, hostOps0_2, hostOps0_3, hostOps0_4, hostOps0_5, hostOps0_6, hostOps0_7, hostOps0_8, List.flatten_cons, List.flatten_nil, List.append_nil, List.cons_append, List.nil_append]
  after_reads_at

theorem emb6 (t : Fin cfg0.N) (y : ((cfg0.win 6).xblock (cfg0.grid.coords t)).Idx) :
    ((View.whole main_v12_2).slice (win0_6.rect t)).emb y = y := by
  refine funext fun a => Fin.ext ?_
  match a with
  | ⟨0, _⟩ =>
    show (((win0_6.blk _).view.emb y) 0).val = (y 0).val
    blk_simp [index6_eq]
  | ⟨1, _⟩ =>
    show (((win0_6.blk _).view.emb y) 1).val = (y 1).val
    blk_simp [index6_eq]

theorem arr6 : (dats m 0 c).arrAt 6 cfg0.N = scalesOf (m (c, main_arg0)) := by
  refine (dats m 0 c).arrAt_eq_of_covers 6 _ (by decide +kernel) fun t hf y => ?_
  blk_simp
  rw [after0_6]
  frame_out
  rw [iblk0_whole, iblk1_whole, scales_value _ _ _ (tokens_in m c) (hadamard_in m c), emb6]

theorem emb5 (t : Fin cfg0.N) (y : ((cfg0.win 5).xblock (cfg0.grid.coords t)).Idx) :
    ((View.whole main_v12_1).slice (win0_5.rect t)).emb y = y := by
  refine funext fun a => Fin.ext ?_
  match a with
  | ⟨0, _⟩ =>
    show (((win0_5.blk _).view.emb y) 0).val = (y 0).val
    blk_simp [index5_eq]
  | ⟨1, _⟩ =>
    show (((win0_5.blk _).view.emb y) 1).val = (y 1).val
    blk_simp [index5_eq]

theorem arr5 : (dats m 0 c).arrAt 5 cfg0.N = codesOf (m (c, main_arg0)) := by
  refine (dats m 0 c).arrAt_eq_of_covers 5 _ (by decide +kernel) fun t hf y => ?_
  blk_simp
  rw [after0_5]
  frame_out
  rw [iblk0_whole, iblk1_whole, codes_value _ _ _ (tokens_in m c) (hadamard_in m c), emb5]

theorem emb4 (t : Fin cfg0.N) (y : ((cfg0.win 4).xblock (cfg0.grid.coords t)).Idx) :
    ((View.whole main_v12_0).slice (win0_4.rect t)).emb y = y := by
  refine funext fun a => Fin.ext ?_
  match a with
  | ⟨0, _⟩ =>
    show (((win0_4.blk _).view.emb y) 0).val = (y 0).val
    blk_simp [index4_eq]
  | ⟨1, _⟩ =>
    show (((win0_4.blk _).view.emb y) 1).val = (y 1).val
    blk_simp [index4_eq]

theorem arr4 : (dats m 0 c).arrAt 4 cfg0.N = yOf (m (c, main_arg0)) (m (c, main_arg1)) (m (c, main_arg2)) := by
  refine (dats m 0 c).arrAt_eq_of_covers 4 _ (by decide +kernel) fun t hf y => ?_
  blk_simp
  rw [after0_4]
  frame_out
  rw [iblk0_whole, iblk1_whole, iblk2_whole, iblk3_whole, y_value _ _ _ (tokens_in m c) (hadamard_in m c) _ _ _ (scales_in m c), weights_in, emb4]

end Cert.ReferenceIdeal.Hand

end
-- ==== Proof.lean ====
/-
  The proof of `Cert.Claim`: the two programs run, end with their arguments unchanged and every semaphore at zero, and at
  the ideal instance the kernel's three results are the reference's three results.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.KernelRun
public import proofs.«01_k».proof.Proof.IdealRun
public import proofs.«01_k».proof.Proof.KernelValue
public import proofs.«01_k».proof.Proof.RefValue
public import Idealize.ShloMosaic.Adequacy
public import Idealize.ShloMosaic.Init

@[expose] public section

noncomputable section

namespace Cert.Proof

open Idealize.ShloMosaic Idealize.ShloMosaic.TcCoe Idealize.SL.Sem

/-- The side condition of the precondition's one broadcast. -/
theorem finite_facts : Cert.Pre_finite.Facts := ⟨by decide⟩

attribute [local instance] finite_facts

/-- The precondition says that every token entry is finite. -/
theorem finite_of_pre (m : (ℓ : Loc Cert.KernelIdeal.nD Cert.KernelIdeal.τ Cert.KernelIdeal.sig) → Buf (Elt Ideal) ℓ)
    (h : Cert.Pre_KernelIdeal_finite m) (c : Dev Cert.KernelIdeal.nD) : Cert.Quantiser.Finite (m (c, Cert.KernelIdeal.main_arg0)) := fun i => by
  have e := congrFun (h c) i
  refine Cert.Quantiser.bdd_of_le _ ?_
  have hb : ∀ b : Bool, BitVec.ofBool b = 1#1 → b = true := by decide
  exact of_decide_eq_true (hb _ e)

theorem kernelIdeal_frame (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0) :=
  (θ_run _ _ _).mono (fun _ h => ⟨fun c => (h.1 c).2.2.2, h.2⟩) (Cert.KernelIdeal.Hand.run m ρ)

/-- The kernel's three results are the reference's. -/
theorem algebraic : Cert.algebraic_KernelIdeal_ReferenceIdeal_pre_finite
    (hKernelIdeal := Cert.KernelIdeal.Gen.facts) (hReferenceIdeal := Cert.ReferenceIdeal.Gen.facts) := by
  intro m g m' g' hpre hagree
  refine ⟨fun c => Cert.Quantiser.yOf (m (c, Cert.KernelIdeal.main_arg0)) (m (c, Cert.KernelIdeal.main_arg1)) (m (c, Cert.KernelIdeal.main_arg2)),
    fun c => Cert.Quantiser.codesOf (m (c, Cert.KernelIdeal.main_arg0)), fun c => Cert.Quantiser.scalesOf (m (c, Cert.KernelIdeal.main_arg0)), ?_, ?_⟩
  · refine (θ_run _ _ _).mono (fun r h c => ?_) (Cert.KernelIdeal.Hand.run m g)
    have hA := finite_of_pre m hpre c
    obtain ⟨h4, h5, h6, hk⟩ := h.1 c
    exact ⟨h4.trans (Cert.KernelIdeal.Hand.arr4 m c hA), h5.trans (Cert.KernelIdeal.Hand.arr5 m c hA), h6.trans (Cert.KernelIdeal.Hand.arr6 m c hA), hk⟩
  · refine (θ_run _ _ _).mono (fun r h c => ?_) (Cert.ReferenceIdeal.Hand.run m' g')
    obtain ⟨h4, h5, h6, hk⟩ := h c
    obtain ⟨a0, a1, a2⟩ := hagree c
    refine ⟨h4.trans ((Cert.ReferenceIdeal.Hand.arr4 m' c).trans ?_), h5.trans ((Cert.ReferenceIdeal.Hand.arr5 m' c).trans ?_),
      h6.trans ((Cert.ReferenceIdeal.Hand.arr6 m' c).trans ?_), hk⟩
    · exact congr (congr (congrArg Cert.Quantiser.yOf a0) a1) a2
    · exact congrArg Cert.Quantiser.codesOf a0
    · exact congrArg Cert.Quantiser.scalesOf a0

theorem claim : Cert.Claim := ⟨Cert.Kernel.Gen.facts, Cert.KernelIdeal.Gen.facts, Cert.ReferenceIdeal.Gen.facts, finite_facts,
  fun m ρ _ => Cert.Kernel.Hand.frame m ρ, fun m ρ _ => kernelIdeal_frame m ρ, fun m ρ _ => kernelIdeal_frame m ρ,
  fun m ρ _ => Cert.ReferenceIdeal.Gen.frame m ρ, fun m ρ _ => Cert.ReferenceIdeal.Gen.frame m ρ, trivial, algebraic⟩

end Cert.Proof

end
